-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v130_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal) (hPre_experts_named := hPre_experts_named)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_named := hPre_experts_named)
-- ==== Pre_experts_named.lean ====
abbrev S39424x1024 : Shape := ⟨2, ![39424, 1024]⟩
abbrev S1024x16 : Shape := ⟨2, ![1024, 16]⟩
abbrev S16x1024x512 : Shape := ⟨3, ![16, 1024, 512]⟩
abbrev S16x512x1024 : Shape := ⟨3, ![16, 512, 1024]⟩
abbrev S154 : Shape := ⟨1, ![154]⟩
abbrev S_ : Shape := ⟨0, ![]⟩

class Facts : Prop where
  bcast_S_S154 : S_.BroadcastsInDim S154 (![] : Fin 0 → Fin S154.rank)

variable [Facts]

def fn {F : FTy → Type} [FloatOps F] (main_arg0 : FVec F S39424x1024 .f32) (main_arg1 : FVec F S1024x16 .f32) (main_arg2 : FVec F S16x1024x512 .f32) (main_arg3 : FVec F S16x1024x512 .f32) (main_arg4 : FVec F S16x512x1024 .f32) (main_arg5 : IVec S154 32) (main_arg6 : IVec S154 32) (main_arg7 : IVec S154 32) : IVec S154 1 :=
  let main_c : IVec S_ 32 := constantI S_ 32 0#32
  let main_v0 : IVec S154 32 := broadcastInDim S154 ![] bcast_S_S154 main_c
  let main_v1 : IVec S154 1 := cmpi .sge main_arg5 main_v0
  let main_c_0 : IVec S_ 32 := constantI S_ 32 16#32
  let main_v2 : IVec S154 32 := broadcastInDim S154 ![] bcast_S_S154 main_c_0
  let main_v3 : IVec S154 1 := cmpi .slt main_arg5 main_v2
  let main_v4 : IVec S154 1 := andi main_v1 main_v3
  let main_c_1 : IVec S_ 32 := constantI S_ 32 0#32
  let main_v5 : IVec S154 32 := broadcastInDim S154 ![] bcast_S_S154 main_c_1
  let main_v6 : IVec S154 1 := cmpi .sge main_arg6 main_v5
  let main_v7 : IVec S154 1 := andi main_v4 main_v6
  let main_c_2 : IVec S_ 32 := constantI S_ 32 16#32
  let main_v8 : IVec S154 32 := broadcastInDim S154 ![] bcast_S_S154 main_c_2
  let main_v9 : IVec S154 1 := cmpi .slt main_arg6 main_v8
  let main_v10 : IVec S154 1 := andi main_v7 main_v9
  main_v10
-- ==== Kernel.lean ====
abbrev S32768x3584 : Shape := ⟨2, ![32768, 3584]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x3 : Shape := ⟨3, ![4, 128, 3]⟩
abbrev S32768x512 : Shape := ⟨2, ![32768, 512]⟩
abbrev S16x4x128x128 : Shape := ⟨4, ![16, 4, 128, 128]⟩
abbrev S2048x512 : Shape := ⟨2, ![2048, 512]⟩
abbrev S1x4x128x128 : Shape := ⟨4, ![1, 4, 128, 128]⟩
abbrev S1x128x1 : Shape := ⟨3, ![1, 128, 1]⟩
abbrev S1x1x1 : Shape := ⟨3, ![1, 1, 1]⟩
abbrev S1x1 : Shape := ⟨2, ![1, 1]⟩
abbrev S1x1x128x128 : Shape := ⟨4, ![1, 1, 128, 128]⟩

abbrev nBuf : Space → Nat
  | .hbm => 87
  | .vmem => 16
  | .smem => 0
  | _ => 0

abbrev bufTy : (tb : Table) → Fin (tcTables nBuf tb) → BufTy
  | .hbm, ⟨0, _⟩ => ⟨S32768x3584, .f32⟩
  | .hbm, ⟨1, _⟩ => ⟨S2048, .i32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S128, .f32⟩
  | .hbm, ⟨32, _⟩ => ⟨S128x1, .f32⟩
  | .hbm, ⟨33, _⟩ => ⟨S1x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S4x1x1, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S1x128x128, .f32⟩
  | .hbm, ⟨45, _⟩ => ⟨S4x128x128, .f32⟩
  | .hbm, ⟨46, _⟩ => ⟨S4x128x128, .f32⟩
  | .hbm, ⟨47, _⟩ => ⟨S4x128x128, .f32⟩
  | .hbm, ⟨48, _⟩ => ⟨S4x128x128, .f32⟩
  | .hbm, ⟨49, _⟩ => ⟨S_, .f32⟩
  | .hbm, ⟨50, _⟩ => ⟨S_, .f32⟩
  | .hbm, ⟨51, _⟩ => ⟨S4x128x128, .i1⟩
  | .hbm, ⟨52, _⟩ => ⟨S4x128x128, .f32⟩
  | .hbm, ⟨53, _⟩ => ⟨S4x128x128, .f32⟩
  | .hbm, ⟨54, _⟩ => ⟨S4x1, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x1, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S4x128, .f32⟩
  | .hbm, ⟨69, _⟩ => ⟨S4x128, .f32⟩
  | .hbm, ⟨70, _⟩ => ⟨S4x128, .f32⟩
  | .hbm, ⟨71, _⟩ => ⟨S4x128, .f32⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4x1, .f32⟩
  | .hbm, ⟨77, _⟩ => ⟨S4x128, .f32⟩
  | .hbm, ⟨78, _⟩ => ⟨S4x128x1, .f32⟩
  | .hbm, ⟨79, _⟩ => ⟨S4x128x1, .f32⟩
  | .hbm, ⟨80, _⟩ => ⟨S4x128x1, .f32⟩
  | .hbm, ⟨81, _⟩ => ⟨S4x128x3, .f32⟩
  | .hbm, ⟨82, _⟩ => ⟨S_, .i32⟩
  | .hbm, ⟨83, _⟩ => ⟨S_, .f32⟩
  | .hbm, ⟨84, _⟩ => ⟨S4x128x128, .f32⟩
  | .hbm, ⟨85, _⟩ => ⟨S32768x512, .f32⟩
  | .hbm, ⟨86, _⟩ => ⟨S16x4x128x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x128, .f32⟩
  | .local _ .vmem, ⟨9, _⟩ => ⟨S2048x128, .f32⟩
  | .local _ .vmem, ⟨10, _⟩ => ⟨S4x128x128, .f32⟩
  | .local _ .vmem, ⟨11, _⟩ => ⟨S4x128x128, .f32⟩
  | .local _ .vmem, ⟨12, _⟩ => ⟨S2048x512, .f32⟩
  | .local _ .vmem, ⟨13, _⟩ => ⟨S2048x512, .f32⟩
  | .local _ .vmem, ⟨14, _⟩ => ⟨S1x4x128x128, .f32⟩
  | .local _ .vmem, ⟨15, _⟩ => ⟨S1x4x128x128, .f32⟩
  | _, _ => ⟨S32768x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_4 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c : Ref sig .tc := ⟨.hbm, 82, rfl⟩
abbrev main_call1_v0 : Ref sig .tc := ⟨.hbm, 83, rfl⟩
abbrev main_v68 : Ref sig .tc := ⟨.hbm, 84, rfl⟩
abbrev main_v69_0 : Ref sig .tc := ⟨.hbm, 85, rfl⟩
abbrev main_v69_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v3 : BitVec 32 := Scalar.muli arg11 c128_i32
  v3
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v3 : BitVec 32 := Scalar.muli arg11 c128_i32
  let v4 : BitVec 32 := v3
  let v5 : Index := Scalar.indexCast v4
  let c0_4 : Index := 0#32
  ![v5.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v3 : BitVec 32 := Scalar.muli arg11 c128_i32
  let v4 : BitVec 32 := v3
  let v19 : Index := Scalar.indexCast v4
  let c0_17 : Index := 0#32
  ![v19.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v3 : BitVec 32 := Scalar.muli arg11 c128_i32
  let v4 : BitVec 32 := v3
  let v91 : Index := Scalar.indexCast v4
  let c128 : Index := 128#32
  ![v91.toNat, 128]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v3 : BitVec 32 := Scalar.muli arg11 c128_i32
  let v4 : BitVec 32 := v3
  let v163 : Index := Scalar.indexCast v4
  let c256 : Index := 256#32
  ![v163.toNat, 256]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v3 : BitVec 32 := Scalar.muli arg11 c128_i32
  let v4 : BitVec 32 := v3
  let v235 : Index := Scalar.indexCast v4
  let c384 : Index := 384#32
  ![v235.toNat, 384]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32768x3584 : Shape := ⟨2, ![32768, 3584]⟩
abbrev S32768x512 : Shape := ⟨2, ![32768, 512]⟩
abbrev S16x2048x4x128 : Shape := ⟨4, ![16, 2048, 4, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S16x2048x4x64 : Shape := ⟨4, ![16, 2048, 4, 64]⟩
abbrev S1x2048x1x64 : Shape := ⟨4, ![1, 2048, 1, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16x4x128x128 : Shape := ⟨4, ![16, 4, 128, 128]⟩
abbrev S16x16x128x4x128 : Shape := ⟨5, ![16, 16, 128, 4, 128]⟩
abbrev S16x16x4x128x128 : Shape := ⟨5, ![16, 16, 4, 128, 128]⟩
abbrev S1x16x4x128x128 : Shape := ⟨5, ![1, 16, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S16x2048x4 : Shape := ⟨3, ![16, 2048, 4]⟩
abbrev S16x2048x4x1 : Shape := ⟨4, ![16, 2048, 4, 1]⟩

abbrev nBuf : Space → Nat
  | .hbm => 244
  | .vmem => 0
  | .smem => 0
  | _ => 0

abbrev hbmTy0_0 (i : Nat) : BufTy := match i % 128 with
  | 0 => ⟨S32768x3584, .f32⟩
  | 1 => ⟨S32768x512, .f32⟩
  | 2 => ⟨S16x2048x4x128, .f32⟩
  | 3 => ⟨S32768x512, .f32⟩
  | 4 => ⟨S16x2048x4x128, .f32⟩
  | 5 => ⟨S32768x512, .f32⟩
  | 6 => ⟨S16x2048x4x128, .f32⟩
  | 7 => ⟨S2048, .i32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S2048, .f32⟩
  | 17 => ⟨S2048x1, .f32⟩
  | 18 => ⟨S1x64, .f32⟩
  | 19 => ⟨S2048x64, .f32⟩
  | 20 => ⟨S2048x64, .f32⟩
  | 21 => ⟨S2048x64, .f32⟩
  | 22 => ⟨S2048x64, .f32⟩
  | 23 => ⟨S2048x1x64, .f32⟩
  | 24 => ⟨S2048x64, .f32⟩
  | 25 => ⟨S2048x1x64, .f32⟩
  | 26 => ⟨S16x2048x4x64, .f32⟩
  | 27 => ⟨S16x2048x4x64, .f32⟩
  | 28 => ⟨S1x2048x1x64, .f32⟩
  | 29 => ⟨S16x2048x4x64, .f32⟩
  | 30 => ⟨S16x2048x4x64, .f32⟩
  | 31 => ⟨S1x2048x1x64, .f32⟩
  | 32 => ⟨S16x2048x4x64, .f32⟩
  | 33 => ⟨S16x2048x4x64, .f32⟩
  | 34 => ⟨S16x2048x4x64, .f32⟩
  | 35 => ⟨S1x2048x1x64, .f32⟩
  | 36 => ⟨S16x2048x4x64, .f32⟩
  | 37 => ⟨S16x2048x4x64, .f32⟩
  | 38 => ⟨S1x2048x1x64, .f32⟩
  | 39 => ⟨S16x2048x4x64, .f32⟩
  | 40 => ⟨S16x2048x4x64, .f32⟩
  | 41 => ⟨S16x2048x4x64, .f32⟩
  | 42 => ⟨S16x2048x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S2048, .f32⟩
  | 52 => ⟨S2048x1, .f32⟩
  | 53 => ⟨S1x64, .f32⟩
  | 54 => ⟨S2048x64, .f32⟩
  | 55 => ⟨S2048x64, .f32⟩
  | 56 => ⟨S2048x64, .f32⟩
  | 57 => ⟨S2048x64, .f32⟩
  | 58 => ⟨S2048x1x64, .f32⟩
  | 59 => ⟨S2048x64, .f32⟩
  | 60 => ⟨S2048x1x64, .f32⟩
  | 61 => ⟨S16x2048x4x64, .f32⟩
  | 62 => ⟨S16x2048x4x64, .f32⟩
  | 63 => ⟨S1x2048x1x64, .f32⟩
  | 64 => ⟨S16x2048x4x64, .f32⟩
  | 65 => ⟨S16x2048x4x64, .f32⟩
  | 66 => ⟨S1x2048x1x64, .f32⟩
  | 67 => ⟨S16x2048x4x64, .f32⟩
  | 68 => ⟨S16x2048x4x64, .f32⟩
  | 69 => ⟨S16x2048x4x64, .f32⟩
  | 70 => ⟨S1x2048x1x64, .f32⟩
  | 71 => ⟨S16x2048x4x64, .f32⟩
  | 72 => ⟨S16x2048x4x64, .f32⟩
  | 73 => ⟨S1x2048x1x64, .f32⟩
  | 74 => ⟨S16x2048x4x64, .f32⟩
  | 75 => ⟨S16x2048x4x64, .f32⟩
  | 76 => ⟨S16x2048x4x64, .f32⟩
  | 77 => ⟨S16x2048x4x128, .f32⟩
  | 78 => ⟨S_, .f32⟩
  | 79 => ⟨S16x2048x4x128, .f32⟩
  | 80 => ⟨S16x2048x4x128, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4, .f32⟩
  | 90 => ⟨S4, .f32⟩
  | 91 => ⟨S128, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S_, .f32⟩
  | 98 => ⟨S128x128, .f32⟩
  | 99 => ⟨S128x128, .i1⟩
  | 100 => ⟨S4x1x1, .f32⟩
  | 101 => ⟨S_, .f32⟩
  | 102 => ⟨S128x128, .f32⟩
  | 103 => ⟨S128x128, .f32⟩
  | 104 => ⟨S1x128x128, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S4x1, .f32⟩
  | 115 => ⟨S_, .f32⟩
  | 116 => ⟨S128, .f32⟩
  | 117 => ⟨S128, .f32⟩
  | 118 => ⟨S1x128, .f32⟩
  | 119 => ⟨S4x128, .f32⟩
  | 120 => ⟨S4x128, .f32⟩
  | 121 => ⟨S4x128, .f32⟩
  | 122 => ⟨S4x128, .f32⟩
  | 123 => ⟨S4x128x1, .f32⟩
  | 124 => ⟨S4x1, .f32⟩
  | 125 => ⟨S_, .f32⟩
  | 126 => ⟨S128, .f32⟩
  | 127 => ⟨S128, .f32⟩
  | _ => ⟨S32768x3584, .f32⟩

abbrev hbmTy0_1 (i : Nat) : BufTy := match i % 128 with
  | 0 => ⟨S1x128, .f32⟩
  | 1 => ⟨S4x128, .f32⟩
  | 2 => ⟨S4x128, .f32⟩
  | 3 => ⟨S4x128, .f32⟩
  | 4 => ⟨S4x128, .f32⟩
  | 5 => ⟨S4x128x1, .f32⟩
  | 6 => ⟨S_, .f32⟩
  | 7 => ⟨S4, .f32⟩
  | 8 => ⟨S4, .f32⟩
  | 9 => ⟨S4, .f32⟩
  | 10 => ⟨S4x1x1, .f32⟩
  | 11 => ⟨S_, .f32⟩
  | 12 => ⟨S16x4x128x128, .f32⟩
  | 13 => ⟨S16x16x128x4x128, .f32⟩
  | 14 => ⟨S16x16x4x128x128, .f32⟩
  | 15 => ⟨S16x16x128x4x128, .f32⟩
  | 16 => ⟨S16x16x4x128x128, .f32⟩
  | 17 => ⟨S16x16x128x4x128, .f32⟩
  | 18 => ⟨S16x16x4x128x128, .f32⟩
  | 19 => ⟨S_, .f32⟩
  | 20 => ⟨S16x16x4x128x128, .f32⟩
  | 21 => ⟨S_, .i32⟩
  | 22 => ⟨S16x16x4x128x128, .f32⟩
  | 23 => ⟨S16x16x4x128x128, .f32⟩
  | 24 => ⟨S16x16x4x128x128, .f32⟩
  | 25 => ⟨S4x128x128, .f32⟩
  | 26 => ⟨S4x128x1, .f32⟩
  | 27 => ⟨S4x1x1, .f32⟩
  | 28 => ⟨S4x128x1, .f32⟩
  | 29 => ⟨S_, .i32⟩
  | 30 => ⟨S16x4x128x128, .f32⟩
  | 31 => ⟨S16x16x4x128x128, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1x16x4x128x128, .f32⟩
  | 39 => ⟨S16x4x128x128, .f32⟩
  | 40 => ⟨S_, .i32⟩
  | 41 => ⟨S_, .i32⟩
  | 42 => ⟨S_, .i32⟩
  | 43 => ⟨S_, .i32⟩
  | 44 => ⟨S1x16x4x128x128, .f32⟩
  | 45 => ⟨S16x4x128x128, .f32⟩
  | 46 => ⟨S_, .i32⟩
  | 47 => ⟨S_, .i32⟩
  | 48 => ⟨S_, .i32⟩
  | 49 => ⟨S_, .i32⟩
  | 50 => ⟨S1x16x4x128x128, .f32⟩
  | 51 => ⟨S16x4x128x128, .f32⟩
  | 52 => ⟨S16x4x128x128, .f32⟩
  | 53 => ⟨S1x4x128x128, .f32⟩
  | 54 => ⟨S16x4x128x128, .f32⟩
  | 55 => ⟨S16x4x128x128, .f32⟩
  | 56 => ⟨S16x4x128x128, .f32⟩
  | 57 => ⟨S1x4x128x1, .f32⟩
  | 58 => ⟨S16x4x128x128, .f32⟩
  | 59 => ⟨S16x4x128x128, .f32⟩
  | 60 => ⟨S16x4x128x128, .f32⟩
  | 61 => ⟨S16x4x128x128, .f32⟩
  | 62 => ⟨S1x4x1x1, .f32⟩
  | 63 => ⟨S16x4x128x128, .f32⟩
  | 64 => ⟨S16x4x128x128, .f32⟩
  | 65 => ⟨S1x4x128x1, .f32⟩
  | 66 => ⟨S16x4x128x128, .f32⟩
  | 67 => ⟨S16x4x128x128, .f32⟩
  | 68 => ⟨S16x4x128x128, .f32⟩
  | 69 => ⟨S16x4x128x128, .f32⟩
  | 70 => ⟨S1x16x4x128x128, .f32⟩
  | 71 => ⟨S_, .i32⟩
  | 72 => ⟨S_, .i32⟩
  | 73 => ⟨S_, .i32⟩
  | 74 => ⟨S_, .i32⟩
  | 75 => ⟨S16x16x4x128x128, .f32⟩
  | 76 => ⟨S_, .i32⟩
  | 77 => ⟨S_, .i32⟩
  | 78 => ⟨S16x16x128x4x128, .f32⟩
  | 79 => ⟨S16x2048x4x128, .f32⟩
  | 80 => ⟨S_, .f32⟩
  | 81 => ⟨S16x2048x4, .f32⟩
  | 82 => ⟨S16x2048x4x1, .f32⟩
  | 83 => ⟨S_, .f32⟩
  | 84 => ⟨S16x2048x4x1, .f32⟩
  | 85 => ⟨S16x2048x4x1, .f32⟩
  | 86 => ⟨S16x2048x4x128, .f32⟩
  | 87 => ⟨S16x2048x4x128, .f32⟩
  | 88 => ⟨S16x2048x4x128, .f32⟩
  | 89 => ⟨S_, .f32⟩
  | 90 => ⟨S16x2048x4, .f32⟩
  | 91 => ⟨S16x2048x4x1, .f32⟩
  | 92 => ⟨S_, .f32⟩
  | 93 => ⟨S16x2048x4x1, .f32⟩
  | 94 => ⟨S16x2048x4x1, .f32⟩
  | 95 => ⟨S16x2048x4x128, .f32⟩
  | 96 => ⟨S16x2048x4x128, .f32⟩
  | 97 => ⟨S_, .f32⟩
  | 98 => ⟨S16x2048x4x1, .f32⟩
  | 99 => ⟨S16x2048x4x1, .f32⟩
  | 100 => ⟨S16x2048x4x1, .f32⟩
  | 101 => ⟨S16x2048x4x128, .f32⟩
  | 102 => ⟨S16x2048x4x128, .f32⟩
  | 103 => ⟨S32768x512, .f32⟩
  | 104 => ⟨S16x2048x4x128, .f32⟩
  | 105 => ⟨S16x2048x4x128, .f32⟩
  | 106 => ⟨S16x2048x4x128, .f32⟩
  | 107 => ⟨S_, .f32⟩
  | 108 => ⟨S16x2048x4x128, .f32⟩
  | 109 => ⟨S16x2048x4x128, .f32⟩
  | 110 => ⟨S_, .f32⟩
  | 111 => ⟨S16x2048x4x128, .f32⟩
  | 112 => ⟨S16x2048x4x128, .f32⟩
  | 113 => ⟨S16x2048x4x128, .f32⟩
  | 114 => ⟨S16x2048x4x128, .f32⟩
  | 115 => ⟨S32768x512, .f32⟩
  | _ => ⟨S32768x3584, .f32⟩

abbrev hbmTy (i : Nat) : BufTy := match i / 128 with
  | 0 => hbmTy0_0 i
  | 1 => hbmTy0_1 i
  | _ => ⟨S32768x3584, .f32⟩

abbrev bufTy : (tb : Table) → Fin (tcTables nBuf tb) → BufTy
  | .hbm, ⟨i, _⟩ => hbmTy i
  | _, _ => ⟨S32768x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_cst_1 : Ref sig .tc := ⟨.hbm, 45, rfl⟩
abbrev main_v42 : Ref sig .tc := ⟨.hbm, 46, rfl⟩
abbrev main_v43 : Ref sig .tc := ⟨.hbm, 47, rfl⟩
abbrev main_cst_2 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_cst_3 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_cst_4 : Ref sig .tc := ⟨.hbm, 82, rfl⟩
abbrev main_v76 : Ref sig .tc := ⟨.hbm, 83, rfl⟩
abbrev main_v77 : Ref sig .tc := ⟨.hbm, 84, rfl⟩
abbrev main_cst_5 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_6 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_7 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_cst_8 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v99 : Ref sig .tc := ⟨.hbm, 113, rfl⟩
abbrev main_v100 : Ref sig .tc := ⟨.hbm, 114, rfl⟩
abbrev main_cst_9 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_10 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_11 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_12 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_13 : Ref sig .tc := ⟨.hbm, 147, rfl⟩
abbrev main_v129 : Ref sig .tc := ⟨.hbm, 148, rfl⟩
abbrev main_c : Ref sig .tc := ⟨.hbm, 149, rfl⟩
abbrev main_v130_0 : Ref sig .tc := ⟨.hbm, 150, rfl⟩
abbrev main_v130_1 : Ref sig .tc := ⟨.hbm, 151, rfl⟩
abbrev main_v130_2 : Ref sig .tc := ⟨.hbm, 152, rfl⟩
abbrev main_v130_3 : Ref sig .tc := ⟨.hbm, 153, rfl⟩
abbrev main_v130_4 : Ref sig .tc := ⟨.hbm, 154, rfl⟩
abbrev main_v130_5 : Ref sig .tc := ⟨.hbm, 155, rfl⟩
abbrev main_v130_6 : Ref sig .tc := ⟨.hbm, 156, rfl⟩
abbrev main_v130_7 : Ref sig .tc := ⟨.hbm, 157, rfl⟩
abbrev main_v130_8 : Ref sig .tc := ⟨.hbm, 158, rfl⟩
abbrev main_v130_9 : Ref sig .tc := ⟨.hbm, 159, rfl⟩
abbrev main_while0c_c_28 : Ref sig .tc := ⟨.hbm, 160, rfl⟩
abbrev main_while0c_v156 : Ref sig .tc := ⟨.hbm, 161, rfl⟩
abbrev main_while0b_call1_c : Ref sig .tc := ⟨.hbm, 162, rfl⟩
abbrev main_while0b_call1_c_0 : Ref sig .tc := ⟨.hbm, 163, rfl⟩
abbrev main_while0b_call1_c_1 : Ref sig .tc := ⟨.hbm, 164, rfl⟩
abbrev main_while0b_call1_c_2 : Ref sig .tc := ⟨.hbm, 165, rfl⟩
abbrev main_while0b_call1_v0 : Ref sig .tc := ⟨.hbm, 166, rfl⟩
abbrev main_while0b_v156 : Ref sig .tc := ⟨.hbm, 167, rfl⟩
abbrev main_while0b_call2_c : Ref sig .tc := ⟨.hbm, 168, rfl⟩
abbrev main_while0b_call2_c_0 : Ref sig .tc := ⟨.hbm, 169, rfl⟩
abbrev main_while0b_call2_c_1 : Ref sig .tc := ⟨.hbm, 170, rfl⟩
abbrev main_while0b_call2_c_2 : Ref sig .tc := ⟨.hbm, 171, rfl⟩
abbrev main_while0b_call2_v0 : Ref sig .tc := ⟨.hbm, 172, rfl⟩
abbrev main_while0b_v157 : Ref sig .tc := ⟨.hbm, 173, rfl⟩
abbrev main_while0b_call3_c : Ref sig .tc := ⟨.hbm, 174, rfl⟩
abbrev main_while0b_call3_c_0 : Ref sig .tc := ⟨.hbm, 175, rfl⟩
abbrev main_while0b_call3_c_1 : Ref sig .tc := ⟨.hbm, 176, rfl⟩
abbrev main_while0b_call3_c_2 : Ref sig .tc := ⟨.hbm, 177, rfl⟩
abbrev main_while0b_call3_v0 : Ref sig .tc := ⟨.hbm, 178, rfl⟩
abbrev main_while0b_v158 : Ref sig .tc := ⟨.hbm, 179, rfl⟩
abbrev main_while0b_v159 : Ref sig .tc := ⟨.hbm, 180, rfl⟩
abbrev main_while0b_v160 : Ref sig .tc := ⟨.hbm, 181, rfl⟩
abbrev main_while0b_v161 : Ref sig .tc := ⟨.hbm, 182, rfl⟩
abbrev main_while0b_v162 : Ref sig .tc := ⟨.hbm, 183, rfl⟩
abbrev main_while0b_v163 : Ref sig .tc := ⟨.hbm, 184, rfl⟩
abbrev main_while0b_v164 : Ref sig .tc := ⟨.hbm, 185, rfl⟩
abbrev main_while0b_v165 : Ref sig .tc := ⟨.hbm, 186, rfl⟩
abbrev main_while0b_v166 : Ref sig .tc := ⟨.hbm, 187, rfl⟩
abbrev main_while0b_v167 : Ref sig .tc := ⟨.hbm, 188, rfl⟩
abbrev main_while0b_v168 : Ref sig .tc := ⟨.hbm, 189, rfl⟩
abbrev main_while0b_v169 : Ref sig .tc := ⟨.hbm, 190, rfl⟩
abbrev main_while0b_v170 : Ref sig .tc := ⟨.hbm, 191, rfl⟩
abbrev main_while0b_v171 : Ref sig .tc := ⟨.hbm, 192, rfl⟩
abbrev main_while0b_v172 : Ref sig .tc := ⟨.hbm, 193, rfl⟩
abbrev main_while0b_v173 : Ref sig .tc := ⟨.hbm, 194, rfl⟩
abbrev main_while0b_v174 : Ref sig .tc := ⟨.hbm, 195, rfl⟩
abbrev main_while0b_v175 : Ref sig .tc := ⟨.hbm, 196, rfl⟩
abbrev main_while0b_v176 : Ref sig .tc := ⟨.hbm, 197, rfl⟩
abbrev main_while0b_call4_v0 : Ref sig .tc := ⟨.hbm, 198, rfl⟩
abbrev main_while0b_call4_c : Ref sig .tc := ⟨.hbm, 199, rfl⟩
abbrev main_while0b_call4_c_0 : Ref sig .tc := ⟨.hbm, 200, rfl⟩
abbrev main_while0b_call4_c_1 : Ref sig .tc := ⟨.hbm, 201, rfl⟩
abbrev main_while0b_call4_c_2 : Ref sig .tc := ⟨.hbm, 202, rfl⟩
abbrev main_while0b_v177 : Ref sig .tc := ⟨.hbm, 203, rfl⟩
abbrev main_while0b_c_28 : Ref sig .tc := ⟨.hbm, 204, rfl⟩
abbrev main_while0b_v178 : Ref sig .tc := ⟨.hbm, 205, rfl⟩
abbrev main_v131 : Ref sig .tc := ⟨.hbm, 206, rfl⟩
abbrev main_v132 : Ref sig .tc := ⟨.hbm, 207, rfl⟩
abbrev main_cst_14 : Ref sig .tc := ⟨.hbm, 208, rfl⟩
abbrev main_v133 : Ref sig .tc := ⟨.hbm, 209, rfl⟩
abbrev main_v134 : Ref sig .tc := ⟨.hbm, 210, rfl⟩
abbrev main_cst_15 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_cst_16 : Ref sig .tc := ⟨.hbm, 217, rfl⟩
abbrev main_v140 : Ref sig .tc := ⟨.hbm, 218, rfl⟩
abbrev main_v141 : Ref sig .tc := ⟨.hbm, 219, rfl⟩
abbrev main_cst_17 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_cst_18 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_call5_v0 : Ref sig .tc := ⟨.hbm, 233, rfl⟩
abbrev main_call5_v1 : Ref sig .tc := ⟨.hbm, 234, rfl⟩
abbrev main_call5_cst : Ref sig .tc := ⟨.hbm, 235, rfl⟩
abbrev main_call5_v2 : Ref sig .tc := ⟨.hbm, 236, rfl⟩
abbrev main_call5_v3 : Ref sig .tc := ⟨.hbm, 237, rfl⟩
abbrev main_call5_cst_0 : Ref sig .tc := ⟨.hbm, 238, rfl⟩
abbrev main_call5_v4 : Ref sig .tc := ⟨.hbm, 239, rfl⟩
abbrev main_call5_v5 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S39424x1024 : Shape := ⟨2, ![39424, 1024]⟩
abbrev S1024x16 : Shape := ⟨2, ![1024, 16]⟩
abbrev S16x1024x512 : Shape := ⟨3, ![16, 1024, 512]⟩
abbrev S16x512x1024 : Shape := ⟨3, ![16, 512, 1024]⟩
abbrev S154 : Shape := ⟨1, ![154]⟩
abbrev S256x1024 : Shape := ⟨2, ![256, 1024]⟩
abbrev S1x1024x512 : Shape := ⟨3, ![1, 1024, 512]⟩
abbrev S1 : Shape := ⟨1, ![1]⟩
abbrev S1x512x1024 : Shape := ⟨3, ![1, 512, 1024]⟩
abbrev S256x16 : Shape := ⟨2, ![256, 16]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 10
  | .vmem => 17
  | .smem => 3
  | _ => 0

abbrev bufTy : (tb : Table) → Fin (tcTables nBuf tb) → BufTy
  | .hbm, ⟨0, _⟩ => ⟨S39424x1024, .f32⟩
  | .hbm, ⟨1, _⟩ => ⟨S1024x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024x16, .bf16⟩
  | .hbm, ⟨6, _⟩ => ⟨S16x1024x512, .bf16⟩
  | .hbm, ⟨7, _⟩ => ⟨S16x1024x512, .bf16⟩
  | .hbm, ⟨8, _⟩ => ⟨S16x512x1024, .bf16⟩
  | .hbm, ⟨9, _⟩ => ⟨S39424x1024, .f32⟩
  | .local _ .vmem, ⟨0, _⟩ => ⟨S256x1024, .f32⟩
  | .local _ .vmem, ⟨1, _⟩ => ⟨S256x1024, .f32⟩
  | .local _ .vmem, ⟨2, _⟩ => ⟨S1024x16, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x512x1024, .bf16⟩
  | .local _ .vmem, ⟨14, _⟩ => ⟨S1x512x1024, .bf16⟩
  | .local _ .vmem, ⟨15, _⟩ => ⟨S256x1024, .f32⟩
  | .local _ .vmem, ⟨16, _⟩ => ⟨S256x1024, .f32⟩
  | .local _ .smem, ⟨0, _⟩ => ⟨S154, .i32⟩
  | .local _ .smem, ⟨1, _⟩ => ⟨S154, .i32⟩
  | .local _ .smem, ⟨2, _⟩ => ⟨S154, .i32⟩
  | _, _ => ⟨S39424x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![154], ![false]⟩

abbrev pre0 : Pipeline.Prefetch sig := ⟨3, ![main_arg5.idx, main_arg6.idx, main_arg7.idx], fun | 0 => main_arg5.names | 1 => main_arg6.names | 2 => main_arg7.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v17 : Index := Scalar.indexCast arg0
  ![v17.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S39424x1024 : Shape := ⟨2, ![39424, 1024]⟩
abbrev S1024x16 : Shape := ⟨2, ![1024, 16]⟩
abbrev S16x1024x512 : Shape := ⟨3, ![16, 1024, 512]⟩
abbrev S16x512x1024 : Shape := ⟨3, ![16, 512, 1024]⟩
abbrev S154 : Shape := ⟨1, ![154]⟩
abbrev S39424x16 : Shape := ⟨2, ![39424, 16]⟩
abbrev S_ : Shape := ⟨0, ![]⟩
abbrev S154x1 : Shape := ⟨2, ![154, 1]⟩
abbrev S154x2 : Shape := ⟨2, ![154, 2]⟩
abbrev S154x256x2 : Shape := ⟨3, ![154, 256, 2]⟩
abbrev S39424x2 : Shape := ⟨2, ![39424, 2]⟩
abbrev S39424x2x1 : Shape := ⟨3, ![39424, 2, 1]⟩
abbrev S1 : Shape := ⟨1, ![1]⟩
abbrev S1x1x1 : Shape := ⟨3, ![1, 1, 1]⟩
abbrev S39424 : Shape := ⟨1, ![39424]⟩
abbrev S39424x1 : Shape := ⟨2, ![39424, 1]⟩
abbrev S1x1x16 : Shape := ⟨3, ![1, 1, 16]⟩
abbrev S39424x2x16 : Shape := ⟨3, ![39424, 2, 16]⟩
abbrev S16x512x39424 : Shape := ⟨3, ![16, 512, 39424]⟩
abbrev S16x39424x512 : Shape := ⟨3, ![16, 39424, 512]⟩
abbrev S16x39424 : Shape := ⟨2, ![16, 39424]⟩
abbrev S16x39424x1 : Shape := ⟨3, ![16, 39424, 1]⟩
abbrev S16x39424x1024 : Shape := ⟨3, ![16, 39424, 1024]⟩
abbrev S154x256 : Shape := ⟨2, ![154, 256]⟩

abbrev nBuf : Space → Nat
  | .hbm => 92
  | .vmem => 0
  | .smem => 0
  | _ => 0

abbrev bufTy : (tb : Table) → Fin (tcTables nBuf tb) → BufTy
  | .hbm, ⟨0, _⟩ => ⟨S39424x1024, .f32⟩
  | .hbm, ⟨1, _⟩ => ⟨S1024x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S154, .i32⟩
  | .hbm, ⟨6, _⟩ => ⟨S154, .i32⟩
  | .hbm, ⟨7, _⟩ => ⟨S154, .i32⟩
  | .hbm, ⟨8, _⟩ => ⟨S39424x16, .f32⟩
  | .hbm, ⟨9, _⟩ => ⟨S39424x16, .f32⟩
  | .hbm, ⟨10, _⟩ => ⟨S39424x16, .f32⟩
  | .hbm, ⟨11, _⟩ => ⟨S_, .f32⟩
  | .hbm, ⟨12, _⟩ => ⟨S39424x16, .f32⟩
  | .hbm, ⟨13, _⟩ => ⟨S39424x16, .f32⟩
  | .hbm, ⟨14, _⟩ => ⟨S_, .f32⟩
  | .hbm, ⟨15, _⟩ => ⟨S39424x16, .f32⟩
  | .hbm, ⟨16, _⟩ => ⟨S39424x16, .f32⟩
  | .hbm, ⟨17, _⟩ => ⟨S154x1, .i32⟩
  | .hbm, ⟨18, _⟩ => ⟨S154x1, .i32⟩
  | .hbm, ⟨19, _⟩ => ⟨S154x2, .i32⟩
  | .hbm, ⟨20, _⟩ => ⟨S154x256x2, .i32⟩
  | .hbm, ⟨21, _⟩ => ⟨S39424x2, .i32⟩
  | .hbm, ⟨22, _⟩ => ⟨S_, .i32⟩
  | .hbm, ⟨23, _⟩ => ⟨S39424x2, .i32⟩
  | .hbm, ⟨24, _⟩ => ⟨S39424x2, .i1⟩
  | .hbm, ⟨25, _⟩ => ⟨S_, .i32⟩
  | .hbm, ⟨26, _⟩ => ⟨S39424x2, .i32⟩
  | .hbm, ⟨27, _⟩ => ⟨S39424x2, .i32⟩
  | .hbm, ⟨28, _⟩ => ⟨S39424x2, .i32⟩
  | .hbm, ⟨29, _⟩ => ⟨S39424x2x1, .i32⟩
  | .hbm, ⟨30, _⟩ => ⟨S1, .i32⟩
  | .hbm, ⟨31, _⟩ => ⟨S_, .i32⟩
  | .hbm, ⟨32, _⟩ => ⟨S39424x2x1, .i32⟩
  | .hbm, ⟨33, _⟩ => ⟨S39424x2x1, .i1⟩
  | .hbm, ⟨34, _⟩ => ⟨S1x1x1, .i32⟩
  | .hbm, ⟨35, _⟩ => ⟨S39424x2x1, .i32⟩
  | .hbm, ⟨36, _⟩ => ⟨S39424x2x1, .i1⟩
  | .hbm, ⟨37, _⟩ => ⟨S39424x2x1, .i1⟩
  | .hbm, ⟨38, _⟩ => ⟨S_, .i1⟩
  | .hbm, ⟨39, _⟩ => ⟨S39424x2, .i1⟩
  | .hbm, ⟨40, _⟩ => ⟨S39424x2, .f32⟩
  | .hbm, ⟨41, _⟩ => ⟨S_, .f32⟩
  | .hbm, ⟨42, _⟩ => ⟨S39424x2, .f32⟩
  | .hbm, ⟨43, _⟩ => ⟨S39424x2, .f32⟩
  | .hbm, ⟨44, _⟩ => ⟨S_, .f32⟩
  | .hbm, ⟨45, _⟩ => ⟨S39424, .f32⟩
  | .hbm, ⟨46, _⟩ => ⟨S39424x1, .f32⟩
  | .hbm, ⟨47, _⟩ => ⟨S39424x2, .f32⟩
  | .hbm, ⟨48, _⟩ => ⟨S39424x2, .f32⟩
  | .hbm, ⟨49, _⟩ => ⟨S39424x2x1, .i32⟩
  | .hbm, ⟨50, _⟩ => ⟨S1x1x16, .i32⟩
  | .hbm, ⟨51, _⟩ => ⟨S39424x2x16, .i32⟩
  | .hbm, ⟨52, _⟩ => ⟨S39424x2x16, .i32⟩
  | .hbm, ⟨53, _⟩ => ⟨S39424x2x16, .i1⟩
  | .hbm, ⟨54, _⟩ => ⟨S39424x2x16, .f32⟩
  | .hbm, ⟨55, _⟩ => ⟨S39424x2x1, .f32⟩
  | .hbm, ⟨56, _⟩ => ⟨S39424x2x16, .f32⟩
  | .hbm, ⟨57, _⟩ => ⟨S39424x2x16, .f32⟩
  | .hbm, ⟨58, _⟩ => ⟨S_, .f32⟩
  | .hbm, ⟨59, _⟩ => ⟨S39424x16, .f32⟩
  | .hbm, ⟨60, _⟩ => ⟨S16x512x39424, .f32⟩
  | .hbm, ⟨61, _⟩ => ⟨S16x39424x512, .f32⟩
  | .hbm, ⟨62, _⟩ => ⟨S16x39424x512, .f32⟩
  | .hbm, ⟨63, _⟩ => ⟨S16x39424x512, .f32⟩
  | .hbm, ⟨64, _⟩ => ⟨S_, .f32⟩
  | .hbm, ⟨65, _⟩ => ⟨S16x39424x512, .f32⟩
  | .hbm, ⟨66, _⟩ => ⟨S16x39424x512, .f32⟩
  | .hbm, ⟨67, _⟩ => ⟨S_, .f32⟩
  | .hbm, ⟨68, _⟩ => ⟨S16x39424x512, .f32⟩
  | .hbm, ⟨69, _⟩ => ⟨S16x39424x512, .f32⟩
  | .hbm, ⟨70, _⟩ => ⟨S16x39424x512, .f32⟩
  | .hbm, ⟨71, _⟩ => ⟨S16x512x39424, .f32⟩
  | .hbm, ⟨72, _⟩ => ⟨S16x39424x512, .f32⟩
  | .hbm, ⟨73, _⟩ => ⟨S16x39424x512, .f32⟩
  | .hbm, ⟨74, _⟩ => ⟨S16x39424, .f32⟩
  | .hbm, ⟨75, _⟩ => ⟨S16x39424x1, .f32⟩
  | .hbm, ⟨76, _⟩ => ⟨S16x39424x1024, .f32⟩
  | .hbm, ⟨77, _⟩ => ⟨S16x39424x1024, .f32⟩
  | .hbm, ⟨78, _⟩ => ⟨S16x39424x1024, .f32⟩
  | .hbm, ⟨79, _⟩ => ⟨S_, .f32⟩
  | .hbm, ⟨80, _⟩ => ⟨S39424x1024, .f32⟩
  | .hbm, ⟨81, _⟩ => ⟨S154x256, .i32⟩
  | .hbm, ⟨82, _⟩ => ⟨S39424, .i32⟩
  | .hbm, ⟨83, _⟩ => ⟨S39424x1, .i32⟩
  | .hbm, ⟨84, _⟩ => ⟨S_, .i32⟩
  | .hbm, ⟨85, _⟩ => ⟨S39424x1, .i32⟩
  | .hbm, ⟨86, _⟩ => ⟨S39424x1, .i1⟩
  | .hbm, ⟨87, _⟩ => ⟨S_, .f32⟩
  | .hbm, ⟨88, _⟩ => ⟨S_, .f32⟩
  | .hbm, ⟨89, _⟩ => ⟨S39424x1024, .i1⟩
  | .hbm, ⟨90, _⟩ => ⟨S39424x1024, .f32⟩
  | .hbm, ⟨91, _⟩ => ⟨S39424x1024, .f32⟩
  | _, _ => ⟨S39424x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_2 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_3 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_c : Ref sig .tc := ⟨.hbm, 84, rfl⟩
abbrev main_v37 : Ref sig .tc := ⟨.hbm, 85, rfl⟩
abbrev main_v38 : Ref sig .tc := ⟨.hbm, 86, rfl⟩
abbrev main_cst_4 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v39 : Ref sig .tc := ⟨.hbm, 91, rfl⟩

abbrev nD : Nat := 1
abbrev τ : Topo := Topo.v7x

variable {F : FTy → Type} [FloatOps F]
-- ==== Proof.OneText.lean ====
/- The two printed kernels have one text: their body tables and their main functions are equal. -/
module

public import proofs.«01_k».proof.Proof.Gen.KernelIdeal
public import proofs.«01_k».proof.Proof.Gen.Kernel
public import proofs.«01_k».proof.Defs

@[expose] public section

set_option maxRecDepth 65536
set_option maxHeartbeats 8000000

noncomputable section

namespace Cert.OneText

open Idealize.ShloMosaic Idealize.ShloMosaic.TcCoe Idealize.SL.Sem

/-- The kernels' body tables. -/
theorem bodies : Cert.Kernel.defs₀ (F := Bits) = Cert.KernelIdeal.defs₀ (F := Bits) := by
  unfold Cert.Kernel.defs₀ Cert.KernelIdeal.defs₀
  refine congrArg Defs.onTc ?_
  funext b x
  match b, x with
  | 0, (t, s) => rfl

/-- The body tables with the regions'. -/
theorem tables : Cert.Kernel.defs (F := Bits) = Cert.KernelIdeal.defs (F := Bits) :=
  congrArg (Pipeline.defs (Cert.KernelIdeal.pcfgs (F := Bits))) bodies

/-- The first window of the main functions. -/
theorem part0 (d) : Cert.Kernel.main_part0 (F := Bits) d = Cert.KernelIdeal.main_part0 (F := Bits) d := rfl

/-- The second. -/
theorem part1 (d) : Cert.Kernel.main_part1 (F := Bits) d = Cert.KernelIdeal.main_part1 (F := Bits) d := rfl

/-- The main functions. -/
theorem mains : Cert.Kernel.main (F := Bits) = Cert.KernelIdeal.main (F := Bits) := by
  funext d
  exact congrArg₂ (fun a b => a >>= fun _ => b) (part0 d) (part1 d)

/-- The runs. -/
theorem runs : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) := by
  rw [tables, mains]
  rfl

end Cert.OneText
-- ==== Proof.Trip.lean ====
/- One trip of the retention kernel's loop over chunks: what it writes, as functions of the vectors its
   memrefs hold.  A trip handles one chunk of 128 rows for each of the four heads: it writes the head's
   128x128 tile of the output and replaces the head's 128x128 state. -/
module

public import proofs.«01_k».proof.Proof.Gen.KernelIdeal.Loops
public import Idealize.ShloMosaic.Lib.WritesUnit
public import Idealize.ShloMosaic.Lib.Pointwise

@[expose] public section

set_option maxRecDepth 16384

noncomputable section

namespace Cert.Ret

open Idealize.ShloMosaic Idealize.ShloMosaic.TcCoe Idealize.SL.Sem
open Cert.KernelIdeal Cert.KernelIdeal.Gen

variable {F : FTy → Type} [FloatOps F]

/-- Chunk `k`, head `h` of a block of 2048 rows and four heads of 128 columns. -/
def blk (x : Vec F S2048x512 .f32) (k : ℕ) (h : ℕ) : Vec F S128x128 .f32 := fun i =>
  x (ix2 ⟨(128 * k + (i 0).val) % 2048, Nat.mod_lt _ (by decide)⟩ ⟨(128 * h + (i 1).val) % 512, Nat.mod_lt _ (by decide)⟩)

/-- Chunk `k` of a table of 2048 rows. -/
def rows (x : Vec F S2048x128 .f32) (k : ℕ) : Vec F S128x128 .f32 := fun i =>
  x (ix2 ⟨(128 * k + (i 0).val) % 2048, Nat.mod_lt _ (by decide)⟩ (i 1))

/-- Head `h` of a table of 4 heads, at its columns from `c` on. -/
def colH (x : Vec F S4x128x128 .f32) (h : Fin 4) (c : Fin 128) : Vec F S1x128x1 .f32 := fun i => x (ix3 h (i 1) c)

/-- The one entry of head `h` in row 0, column 2. -/
def oneH (x : Vec F S4x128x128 .f32) (h : Fin 4) : Vec F S1x1x1 .f32 := fun _ => x (ix3 h 0 2)

/-- Head `h` of a table of 4 matrices. -/
def matH (x : Vec F S4x128x128 .f32) (h : Fin 4) : Vec F S1x128x128 .f32 := fun i => x (ix3 h (i 1) (i 2))

/-- Head `h` of the state. -/
def stH (x : Vec F S1x4x128x128 .f32) (h : Fin 4) : Vec F S1x1x128x128 .f32 := fun i => x (ix4 0 h (i 2) (i 3))

/-- The output tile of one head in one chunk, of the chunk's vectors. -/
def tileO (cs sn q k v g : Vec F S128x128 .f32) (xi : Vec F S1x128x1 .f32) (dc : Vec F S1x128x128 .f32)
    (st : Vec F S1x1x128x128 .f32) : Vec F S128x128 .f32 :=
  k0_pay14 (k0_pay6 xi) (k0_pay9 st) (k0_pay10 cs sn q) (k0_pay12 v) (k0_pay13 cs sn q k) dc g

/-- The next state of one head, of the chunk's vectors. -/
def tileS (cs sn k v : Vec F S128x128 .f32) (ze : Vec F S1x128x1 .f32) (gc : Vec F S1x1x1 .f32)
    (st : Vec F S1x1x128x128 .f32) : Vec F S1x1x128x128 .f32 :=
  k0_pay16 (k0_pay15 (k0_pay7 ze) (k0_pay8 gc) (k0_pay9 st) (k0_pay11 cs sn k) (k0_pay12 v))

/-- A load of a 128x128 tile of a 2048x512 block. -/
theorem readAt_blk (v : View sig .tc .vmem S2048x512 .f32) (X : v.ty.Contents (Elt F)) (off : Fin 2 → ℕ)
    (inb : ∀ a, off a + S128x128.size a ≤ S2048x512.size a) (k h : ℕ) (hk : k < 16) (hh : h < 4)
    (ho : off = ![128 * k, 128 * h]) :
    (v.readAt (Elt F) (Rect.unit (s := S2048x512) off S128x128.size inb).toLoadRect X : Vec F S128x128 .f32) = blk (v.read (Elt F) X) k h := by
  subst ho
  funext i
  rw [View.readAt_apply]
  refine congrArg _ (funext fun a => Fin.ext ?_)
  have h0 : (i 0).val < 128 := (i 0).isLt
  have h1 : (i 1).val < 128 := (i 1).isLt
  fin_cases a
  · show 128 * k + 1 * (i 0).val = (128 * k + (i 0).val) % 2048
    omega
  · show 128 * h + 1 * (i 1).val = (128 * h + (i 1).val) % 512
    omega

/-- A load of 128 rows of a 2048x128 table. -/
theorem readAt_rows (v : View sig .tc .vmem S2048x128 .f32) (X : v.ty.Contents (Elt F)) (off : Fin 2 → ℕ)
    (inb : ∀ a, off a + S128x128.size a ≤ S2048x128.size a) (k : ℕ) (hk : k < 16)
    (ho : off = ![128 * k, 0]) :
    (v.readAt (Elt F) (Rect.unit (s := S2048x128) off S128x128.size inb).toLoadRect X : Vec F S128x128 .f32) = rows (v.read (Elt F) X) k := by
  subst ho
  funext i
  rw [View.readAt_apply]
  refine congrArg _ (funext fun a => Fin.ext ?_)
  have h0 : (i 0).val < 128 := (i 0).isLt
  fin_cases a
  · show 128 * k + 1 * (i 0).val = (128 * k + (i 0).val) % 2048
    omega
  · show 0 + 1 * (i 1).val = (i 1).val
    omega

/-- A load of one column of one head. -/
theorem readAt_col (v : View sig .tc .vmem S4x128x128 .f32) (X : v.ty.Contents (Elt F)) (h : Fin 4) (c : Fin 128) (off : Fin 3 → ℕ)
    (inb : ∀ a, off a + S1x128x1.size a ≤ S4x128x128.size a)
    (ho : off = ![h.val, 0, c.val]) :
    (v.readAt (Elt F) (Rect.unit (s := S4x128x128) off S1x128x1.size inb).toLoadRect X : Vec F S1x128x1 .f32) = colH (v.read (Elt F) X) h c := by
  subst ho
  funext i
  rw [View.readAt_apply]
  refine congrArg _ (funext fun a => Fin.ext ?_)
  have h0 : (i 0).val < 1 := (i 0).isLt
  have h2 : (i 2).val < 1 := (i 2).isLt
  fin_cases a
  · show h.val + 1 * (i 0).val = h.val
    omega
  · show 0 + 1 * (i 1).val = (i 1).val
    omega
  · show c.val + 1 * (i 2).val = c.val
    omega

/-- A load of the one entry of one head. -/
theorem readAt_one (v : View sig .tc .vmem S4x128x128 .f32) (X : v.ty.Contents (Elt F)) (h : Fin 4) (off : Fin 3 → ℕ)
    (inb : ∀ a, off a + S1x1x1.size a ≤ S4x128x128.size a)
    (ho : off = ![h.val, 0, 2]) :
    (v.readAt (Elt F) (Rect.unit (s := S4x128x128) off S1x1x1.size inb).toLoadRect X : Vec F S1x1x1 .f32) = oneH (v.read (Elt F) X) h := by
  subst ho
  funext i
  rw [View.readAt_apply]
  refine congrArg _ (funext fun a => Fin.ext ?_)
  have h0 : (i 0).val < 1 := (i 0).isLt
  have h1 : (i 1).val < 1 := (i 1).isLt
  have h2 : (i 2).val < 1 := (i 2).isLt
  fin_cases a
  · show h.val + 1 * (i 0).val = h.val
    omega
  · show 0 + 1 * (i 1).val = 0
    omega
  · show 2 + 1 * (i 2).val = 2
    omega

/-- A load of one head's matrix. -/
theorem readAt_mat (v : View sig .tc .vmem S4x128x128 .f32) (X : v.ty.Contents (Elt F)) (h : Fin 4) (off : Fin 3 → ℕ)
    (inb : ∀ a, off a + S1x128x128.size a ≤ S4x128x128.size a)
    (ho : off = ![h.val, 0, 0]) :
    (v.readAt (Elt F) (Rect.unit (s := S4x128x128) off S1x128x128.size inb).toLoadRect X : Vec F S1x128x128 .f32) = matH (v.read (Elt F) X) h := by
  subst ho
  funext i
  rw [View.readAt_apply]
  refine congrArg _ (funext fun a => Fin.ext ?_)
  have h0 : (i 0).val < 1 := (i 0).isLt
  fin_cases a
  · show h.val + 1 * (i 0).val = h.val
    omega
  · show 0 + 1 * (i 1).val = (i 1).val
    omega
  · show 0 + 1 * (i 2).val = (i 2).val
    omega

/-- A load of one head's state. -/
theorem readAt_st (v : View sig .tc .vmem S1x4x128x128 .f32) (X : v.ty.Contents (Elt F)) (h : Fin 4) (off : Fin 4 → ℕ)
    (inb : ∀ a, off a + S1x1x128x128.size a ≤ S1x4x128x128.size a)
    (ho : off = ![0, h.val, 0, 0]) :
    (v.readAt (Elt F) (Rect.unit (s := S1x4x128x128) off S1x1x128x128.size inb).toLoadRect X : Vec F S1x1x128x128 .f32) = stH (v.read (Elt F) X) h := by
  subst ho
  funext i
  rw [View.readAt_apply]
  refine congrArg _ (funext fun a => Fin.ext ?_)
  have h0 : (i 0).val < 1 := (i 0).isLt
  have h1 : (i 1).val < 1 := (i 1).isLt
  fin_cases a
  · show 0 + 1 * (i 0).val = 0
    omega
  · show h.val + 1 * (i 1).val = h.val
    omega
  · show 0 + 1 * (i 2).val = (i 2).val
    omega
  · show 0 + 1 * (i 3).val = (i 3).val
    omega

set_option maxHeartbeats 2000000 in
/-- The pieces a trip writes into the output block, of the loads it makes. -/
theorem tripO_loads (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S2048x512 .f32) (harg9 : arg9.IsWhole) (arg10 : Memref sig .tc .vmem S1x4x128x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips)
    (f9 : BufTy.Contents (Elt F) arg9.view.ty) (f10 : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 X1 X2 X3 X4 X5 X6 X7 X8 k).1 f9 f10 = [
      ⟨Rect.unit (k0_off5 k) S128x128.size (k0_off5_inb k), tileO (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg1.view.readAt (Elt F) (Rect.unit (s := S2048x512) (k0_off5 k) S128x128.size (k0_off5_inb k)).toLoadRect X1) (arg2.view.readAt (Elt F) (Rect.unit (s := S2048x512) (k0_off5 k) S128x128.size (k0_off5_inb k)).toLoadRect X2)
        (arg3.view.readAt (Elt F) (Rect.unit (s := S2048x512) (k0_off5 k) S128x128.size (k0_off5_inb k)).toLoadRect X3) (arg4.view.readAt (Elt F) (Rect.unit (s := S2048x512) (k0_off5 k) S128x128.size (k0_off5_inb k)).toLoadRect X4)
        (arg8.view.readAt (Elt F) (Rect.unit (s := S4x128x128) ![3, 0, 0] S1x128x1.size inb_S4x128x128_S1x128x1_3_0_0).toLoadRect X8) (arg7.view.readAt (Elt F) (Rect.unit (s := S4x128x128) ![3, 0, 0] S1x128x128.size inb_S4x128x128_S1x128x128_3_0_0).toLoadRect X7) (arg10.view.readAt (Elt F) (Rect.unit (s := S1x4x128x128) ![0, 3, 0, 0] S1x1x128x128.size inb_S1x4x128x128_S1x1x128x128_0_3_0_0).toLoadRect f10)⟩,
      ⟨Rect.unit (k0_off4 k) S128x128.size (k0_off4_inb k), tileO (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg1.view.readAt (Elt F) (Rect.unit (s := S2048x512) (k0_off4 k) S128x128.size (k0_off4_inb k)).toLoadRect X1) (arg2.view.readAt (Elt F) (Rect.unit (s := S2048x512) (k0_off4 k) S128x128.size (k0_off4_inb k)).toLoadRect X2)
        (arg3.view.readAt (Elt F) (Rect.unit (s := S2048x512) (k0_off4 k) S128x128.size (k0_off4_inb k)).toLoadRect X3) (arg4.view.readAt (Elt F) (Rect.unit (s := S2048x512) (k0_off4 k) S128x128.size (k0_off4_inb k)).toLoadRect X4)
        (arg8.view.readAt (Elt F) (Rect.unit (s := S4x128x128) ![2, 0, 0] S1x128x1.size inb_S4x128x128_S1x128x1_2_0_0).toLoadRect X8) (arg7.view.readAt (Elt F) (Rect.unit (s := S4x128x128) ![2, 0, 0] S1x128x128.size inb_S4x128x128_S1x128x128_2_0_0).toLoadRect X7) (arg10.view.readAt (Elt F) (Rect.unit (s := S1x4x128x128) ![0, 2, 0, 0] S1x1x128x128.size inb_S1x4x128x128_S1x1x128x128_0_2_0_0).toLoadRect f10)⟩,
      ⟨Rect.unit (k0_off3 k) S128x128.size (k0_off3_inb k), tileO (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg1.view.readAt (Elt F) (Rect.unit (s := S2048x512) (k0_off3 k) S128x128.size (k0_off3_inb k)).toLoadRect X1) (arg2.view.readAt (Elt F) (Rect.unit (s := S2048x512) (k0_off3 k) S128x128.size (k0_off3_inb k)).toLoadRect X2)
        (arg3.view.readAt (Elt F) (Rect.unit (s := S2048x512) (k0_off3 k) S128x128.size (k0_off3_inb k)).toLoadRect X3) (arg4.view.readAt (Elt F) (Rect.unit (s := S2048x512) (k0_off3 k) S128x128.size (k0_off3_inb k)).toLoadRect X4)
        (arg8.view.readAt (Elt F) (Rect.unit (s := S4x128x128) ![1, 0, 0] S1x128x1.size inb_S4x128x128_S1x128x1_1_0_0).toLoadRect X8) (arg7.view.readAt (Elt F) (Rect.unit (s := S4x128x128) ![1, 0, 0] S1x128x128.size inb_S4x128x128_S1x128x128_1_0_0).toLoadRect X7) (arg10.view.readAt (Elt F) (Rect.unit (s := S1x4x128x128) ![0, 1, 0, 0] S1x1x128x128.size inb_S1x4x128x128_S1x1x128x128_0_1_0_0).toLoadRect f10)⟩,
      ⟨Rect.unit (k0_off2 k) S128x128.size (k0_off2_inb k), tileO (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg1.view.readAt (Elt F) (Rect.unit (s := S2048x512) (k0_off2 k) S128x128.size (k0_off2_inb k)).toLoadRect X1) (arg2.view.readAt (Elt F) (Rect.unit (s := S2048x512) (k0_off2 k) S128x128.size (k0_off2_inb k)).toLoadRect X2)
        (arg3.view.readAt (Elt F) (Rect.unit (s := S2048x512) (k0_off2 k) S128x128.size (k0_off2_inb k)).toLoadRect X3) (arg4.view.readAt (Elt F) (Rect.unit (s := S2048x512) (k0_off2 k) S128x128.size (k0_off2_inb k)).toLoadRect X4)
        (arg8.view.readAt (Elt F) (Rect.unit (s := S4x128x128) ![0, 0, 0] S1x128x1.size inb_S4x128x128_S1x128x1_0_0_0).toLoadRect X8) (arg7.view.readAt (Elt F) (Rect.unit (s := S4x128x128) ![0, 0, 0] S1x128x128.size inb_S4x128x128_S1x128x128_0_0_0).toLoadRect X7) (arg10.view.readAt (Elt F) (Rect.unit (s := S1x4x128x128) ![0, 0, 0, 0] S1x1x128x128.size inb_S1x4x128x128_S1x1x128x128_0_0_0_0).toLoadRect f10)⟩] := by
  unfold trip_k0_t1
  rfl

set_option maxHeartbeats 2000000 in
/-- The pieces a trip writes into the output block, of the vectors its memrefs hold. -/
theorem tripO (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S2048x512 .f32) (harg9 : arg9.IsWhole) (arg10 : Memref sig .tc .vmem S1x4x128x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips)
    (f9 : BufTy.Contents (Elt F) arg9.view.ty) (f10 : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 X1 X2 X3 X4 X5 X6 X7 X8 k).1 f9 f10 = [
      ⟨Rect.unit (k0_off5 k) S128x128.size (k0_off5_inb k), tileO (rows (arg5.view.read (Elt F) X5) k.val) (rows (arg6.view.read (Elt F) X6) k.val) (blk (arg1.view.read (Elt F) X1) k.val 3) (blk (arg2.view.read (Elt F) X2) k.val 3) (blk (arg3.view.read (Elt F) X3) k.val 3) (blk (arg4.view.read (Elt F) X4) k.val 3)
        (colH (arg8.view.read (Elt F) X8) 3 0) (matH (arg7.view.read (Elt F) X7) 3) (stH (arg10.view.read (Elt F) f10) 3)⟩,
      ⟨Rect.unit (k0_off4 k) S128x128.size (k0_off4_inb k), tileO (rows (arg5.view.read (Elt F) X5) k.val) (rows (arg6.view.read (Elt F) X6) k.val) (blk (arg1.view.read (Elt F) X1) k.val 2) (blk (arg2.view.read (Elt F) X2) k.val 2) (blk (arg3.view.read (Elt F) X3) k.val 2) (blk (arg4.view.read (Elt F) X4) k.val 2)
        (colH (arg8.view.read (Elt F) X8) 2 0) (matH (arg7.view.read (Elt F) X7) 2) (stH (arg10.view.read (Elt F) f10) 2)⟩,
      ⟨Rect.unit (k0_off3 k) S128x128.size (k0_off3_inb k), tileO (rows (arg5.view.read (Elt F) X5) k.val) (rows (arg6.view.read (Elt F) X6) k.val) (blk (arg1.view.read (Elt F) X1) k.val 1) (blk (arg2.view.read (Elt F) X2) k.val 1) (blk (arg3.view.read (Elt F) X3) k.val 1) (blk (arg4.view.read (Elt F) X4) k.val 1)
        (colH (arg8.view.read (Elt F) X8) 1 0) (matH (arg7.view.read (Elt F) X7) 1) (stH (arg10.view.read (Elt F) f10) 1)⟩,
      ⟨Rect.unit (k0_off2 k) S128x128.size (k0_off2_inb k), tileO (rows (arg5.view.read (Elt F) X5) k.val) (rows (arg6.view.read (Elt F) X6) k.val) (blk (arg1.view.read (Elt F) X1) k.val 0) (blk (arg2.view.read (Elt F) X2) k.val 0) (blk (arg3.view.read (Elt F) X3) k.val 0) (blk (arg4.view.read (Elt F) X4) k.val 0)
        (colH (arg8.view.read (Elt F) X8) 0 0) (matH (arg7.view.read (Elt F) X7) 0) (stH (arg10.view.read (Elt F) f10) 0)⟩] := by
  have hk : k.val < 16 := Nat.lt_of_lt_of_le k.isLt k0_t1_abs.2.1
  rw [tripO_loads]
  rw [readAt_blk arg1.view X1 (k0_off2 k) (k0_off2_inb k) k.val 0 hk (by decide) (k0_off2_eq k)]
  rw [readAt_blk arg2.view X2 (k0_off2 k) (k0_off2_inb k) k.val 0 hk (by decide) (k0_off2_eq k)]
  rw [readAt_blk arg3.view X3 (k0_off2 k) (k0_off2_inb k) k.val 0 hk (by decide) (k0_off2_eq k)]
  rw [readAt_blk arg4.view X4 (k0_off2 k) (k0_off2_inb k) k.val 0 hk (by decide) (k0_off2_eq k)]
  rw [readAt_col arg8.view X8 0 0 ![0, 0, 0] inb_S4x128x128_S1x128x1_0_0_0 rfl, readAt_mat arg7.view X7 0 ![0, 0, 0] inb_S4x128x128_S1x128x128_0_0_0 rfl]
  rw [readAt_st arg10.view f10 0 ![0, 0, 0, 0] inb_S1x4x128x128_S1x1x128x128_0_0_0_0 rfl]
  rw [readAt_blk arg1.view X1 (k0_off3 k) (k0_off3_inb k) k.val 1 hk (by decide) (k0_off3_eq k)]
  rw [readAt_blk arg2.view X2 (k0_off3 k) (k0_off3_inb k) k.val 1 hk (by decide) (k0_off3_eq k)]
  rw [readAt_blk arg3.view X3 (k0_off3 k) (k0_off3_inb k) k.val 1 hk (by decide) (k0_off3_eq k)]
  rw [readAt_blk arg4.view X4 (k0_off3 k) (k0_off3_inb k) k.val 1 hk (by decide) (k0_off3_eq k)]
  rw [readAt_col arg8.view X8 1 0 ![1, 0, 0] inb_S4x128x128_S1x128x1_1_0_0 rfl, readAt_mat arg7.view X7 1 ![1, 0, 0] inb_S4x128x128_S1x128x128_1_0_0 rfl]
  rw [readAt_st arg10.view f10 1 ![0, 1, 0, 0] inb_S1x4x128x128_S1x1x128x128_0_1_0_0 rfl]
  rw [readAt_blk arg1.view X1 (k0_off4 k) (k0_off4_inb k) k.val 2 hk (by decide) (k0_off4_eq k)]
  rw [readAt_blk arg2.view X2 (k0_off4 k) (k0_off4_inb k) k.val 2 hk (by decide) (k0_off4_eq k)]
  rw [readAt_blk arg3.view X3 (k0_off4 k) (k0_off4_inb k) k.val 2 hk (by decide) (k0_off4_eq k)]
  rw [readAt_blk arg4.view X4 (k0_off4 k) (k0_off4_inb k) k.val 2 hk (by decide) (k0_off4_eq k)]
  rw [readAt_col arg8.view X8 2 0 ![2, 0, 0] inb_S4x128x128_S1x128x1_2_0_0 rfl, readAt_mat arg7.view X7 2 ![2, 0, 0] inb_S4x128x128_S1x128x128_2_0_0 rfl]
  rw [readAt_st arg10.view f10 2 ![0, 2, 0, 0] inb_S1x4x128x128_S1x1x128x128_0_2_0_0 rfl]
  rw [readAt_blk arg1.view X1 (k0_off5 k) (k0_off5_inb k) k.val 3 hk (by decide) (k0_off5_eq k)]
  rw [readAt_blk arg2.view X2 (k0_off5 k) (k0_off5_inb k) k.val 3 hk (by decide) (k0_off5_eq k)]
  rw [readAt_blk arg3.view X3 (k0_off5 k) (k0_off5_inb k) k.val 3 hk (by decide) (k0_off5_eq k)]
  rw [readAt_blk arg4.view X4 (k0_off5 k) (k0_off5_inb k) k.val 3 hk (by decide) (k0_off5_eq k)]
  rw [readAt_col arg8.view X8 3 0 ![3, 0, 0] inb_S4x128x128_S1x128x1_3_0_0 rfl, readAt_mat arg7.view X7 3 ![3, 0, 0] inb_S4x128x128_S1x128x128_3_0_0 rfl]
  rw [readAt_st arg10.view f10 3 ![0, 3, 0, 0] inb_S1x4x128x128_S1x1x128x128_0_3_0_0 rfl]
  rw [readAt_rows arg5.view X5 (k0_off1 k) (k0_off1_inb k) k.val hk (k0_off1_eq k)]
  rw [readAt_rows arg6.view X6 (k0_off1 k) (k0_off1_inb k) k.val hk (k0_off1_eq k)]

set_option maxHeartbeats 2000000 in
/-- The pieces a trip writes into the state, of the loads it makes. -/
theorem tripS_loads (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S2048x512 .f32) (harg9 : arg9.IsWhole) (arg10 : Memref sig .tc .vmem S1x4x128x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips)
    (f9 : BufTy.Contents (Elt F) arg9.view.ty) (f10 : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 X1 X2 X3 X4 X5 X6 X7 X8 k).2.1 f9 f10 = [
      ⟨Rect.unit ![0, 3, 0, 0] S1x1x128x128.size inb_S1x4x128x128_S1x1x128x128_0_3_0_0, tileS (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg2.view.readAt (Elt F) (Rect.unit (s := S2048x512) (k0_off5 k) S128x128.size (k0_off5_inb k)).toLoadRect X2) (arg3.view.readAt (Elt F) (Rect.unit (s := S2048x512) (k0_off5 k) S128x128.size (k0_off5_inb k)).toLoadRect X3)
        (arg8.view.readAt (Elt F) (Rect.unit (s := S4x128x128) ![3, 0, 1] S1x128x1.size inb_S4x128x128_S1x128x1_3_0_1).toLoadRect X8) (arg8.view.readAt (Elt F) (Rect.unit (s := S4x128x128) ![3, 0, 2] S1x1x1.size inb_S4x128x128_S1x1x1_3_0_2).toLoadRect X8) (arg10.view.readAt (Elt F) (Rect.unit (s := S1x4x128x128) ![0, 3, 0, 0] S1x1x128x128.size inb_S1x4x128x128_S1x1x128x128_0_3_0_0).toLoadRect f10)⟩,
      ⟨Rect.unit ![0, 2, 0, 0] S1x1x128x128.size inb_S1x4x128x128_S1x1x128x128_0_2_0_0, tileS (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg2.view.readAt (Elt F) (Rect.unit (s := S2048x512) (k0_off4 k) S128x128.size (k0_off4_inb k)).toLoadRect X2) (arg3.view.readAt (Elt F) (Rect.unit (s := S2048x512) (k0_off4 k) S128x128.size (k0_off4_inb k)).toLoadRect X3)
        (arg8.view.readAt (Elt F) (Rect.unit (s := S4x128x128) ![2, 0, 1] S1x128x1.size inb_S4x128x128_S1x128x1_2_0_1).toLoadRect X8) (arg8.view.readAt (Elt F) (Rect.unit (s := S4x128x128) ![2, 0, 2] S1x1x1.size inb_S4x128x128_S1x1x1_2_0_2).toLoadRect X8) (arg10.view.readAt (Elt F) (Rect.unit (s := S1x4x128x128) ![0, 2, 0, 0] S1x1x128x128.size inb_S1x4x128x128_S1x1x128x128_0_2_0_0).toLoadRect f10)⟩,
      ⟨Rect.unit ![0, 1, 0, 0] S1x1x128x128.size inb_S1x4x128x128_S1x1x128x128_0_1_0_0, tileS (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg2.view.readAt (Elt F) (Rect.unit (s := S2048x512) (k0_off3 k) S128x128.size (k0_off3_inb k)).toLoadRect X2) (arg3.view.readAt (Elt F) (Rect.unit (s := S2048x512) (k0_off3 k) S128x128.size (k0_off3_inb k)).toLoadRect X3)
        (arg8.view.readAt (Elt F) (Rect.unit (s := S4x128x128) ![1, 0, 1] S1x128x1.size inb_S4x128x128_S1x128x1_1_0_1).toLoadRect X8) (arg8.view.readAt (Elt F) (Rect.unit (s := S4x128x128) ![1, 0, 2] S1x1x1.size inb_S4x128x128_S1x1x1_1_0_2).toLoadRect X8) (arg10.view.readAt (Elt F) (Rect.unit (s := S1x4x128x128) ![0, 1, 0, 0] S1x1x128x128.size inb_S1x4x128x128_S1x1x128x128_0_1_0_0).toLoadRect f10)⟩,
      ⟨Rect.unit ![0, 0, 0, 0] S1x1x128x128.size inb_S1x4x128x128_S1x1x128x128_0_0_0_0, tileS (arg5.view.readAt (Elt F) (Rect.unit (s := S2048x128) (k0_off1 k) S128x128.size (k0_off1_inb k)).toLoadRect X5) (arg6.view.readAt (Elt F) (Rect.unit (s := S2048x128) (k0_off1 k) S128x128.size (k0_off1_inb k)).toLoadRect X6)
        (arg2.view.readAt (Elt F) (Rect.unit (s := S2048x512) (k0_off2 k) S128x128.size (k0_off2_inb k)).toLoadRect X2) (arg3.view.readAt (Elt F) (Rect.unit (s := S2048x512) (k0_off2 k) S128x128.size (k0_off2_inb k)).toLoadRect X3)
        (arg8.view.readAt (Elt F) (Rect.unit (s := S4x128x128) ![0, 0, 1] S1x128x1.size inb_S4x128x128_S1x128x1_0_0_1).toLoadRect X8) (arg8.view.readAt (Elt F) (Rect.unit (s := S4x128x128) ![0, 0, 2] S1x1x1.size inb_S4x128x128_S1x1x1_0_0_2).toLoadRect X8) (arg10.view.readAt (Elt F) (Rect.unit (s := S1x4x128x128) ![0, 0, 0, 0] S1x1x128x128.size inb_S1x4x128x128_S1x1x128x128_0_0_0_0).toLoadRect f10)⟩] := by
  unfold trip_k0_t1
  rfl

set_option maxHeartbeats 2000000 in
/-- The pieces a trip writes into the state, of the vectors its memrefs hold. -/
theorem tripS (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S2048x512 .f32) (harg9 : arg9.IsWhole) (arg10 : Memref sig .tc .vmem S1x4x128x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips)
    (f9 : BufTy.Contents (Elt F) arg9.view.ty) (f10 : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 X1 X2 X3 X4 X5 X6 X7 X8 k).2.1 f9 f10 = [
      ⟨Rect.unit ![0, 3, 0, 0] S1x1x128x128.size inb_S1x4x128x128_S1x1x128x128_0_3_0_0, tileS (rows (arg5.view.read (Elt F) X5) k.val) (rows (arg6.view.read (Elt F) X6) k.val) (blk (arg2.view.read (Elt F) X2) k.val 3) (blk (arg3.view.read (Elt F) X3) k.val 3)
        (colH (arg8.view.read (Elt F) X8) 3 1) (oneH (arg8.view.read (Elt F) X8) 3) (stH (arg10.view.read (Elt F) f10) 3)⟩,
      ⟨Rect.unit ![0, 2, 0, 0] S1x1x128x128.size inb_S1x4x128x128_S1x1x128x128_0_2_0_0, tileS (rows (arg5.view.read (Elt F) X5) k.val) (rows (arg6.view.read (Elt F) X6) k.val) (blk (arg2.view.read (Elt F) X2) k.val 2) (blk (arg3.view.read (Elt F) X3) k.val 2)
        (colH (arg8.view.read (Elt F) X8) 2 1) (oneH (arg8.view.read (Elt F) X8) 2) (stH (arg10.view.read (Elt F) f10) 2)⟩,
      ⟨Rect.unit ![0, 1, 0, 0] S1x1x128x128.size inb_S1x4x128x128_S1x1x128x128_0_1_0_0, tileS (rows (arg5.view.read (Elt F) X5) k.val) (rows (arg6.view.read (Elt F) X6) k.val) (blk (arg2.view.read (Elt F) X2) k.val 1) (blk (arg3.view.read (Elt F) X3) k.val 1)
        (colH (arg8.view.read (Elt F) X8) 1 1) (oneH (arg8.view.read (Elt F) X8) 1) (stH (arg10.view.read (Elt F) f10) 1)⟩,
      ⟨Rect.unit ![0, 0, 0, 0] S1x1x128x128.size inb_S1x4x128x128_S1x1x128x128_0_0_0_0, tileS (rows (arg5.view.read (Elt F) X5) k.val) (rows (arg6.view.read (Elt F) X6) k.val) (blk (arg2.view.read (Elt F) X2) k.val 0) (blk (arg3.view.read (Elt F) X3) k.val 0)
        (colH (arg8.view.read (Elt F) X8) 0 1) (oneH (arg8.view.read (Elt F) X8) 0) (stH (arg10.view.read (Elt F) f10) 0)⟩] := by
  have hk : k.val < 16 := Nat.lt_of_lt_of_le k.isLt k0_t1_abs.2.1
  rw [tripS_loads]
  rw [readAt_blk arg2.view X2 (k0_off2 k) (k0_off2_inb k) k.val 0 hk (by decide) (k0_off2_eq k)]
  rw [readAt_blk arg3.view X3 (k0_off2 k) (k0_off2_inb k) k.val 0 hk (by decide) (k0_off2_eq k)]
  rw [readAt_col arg8.view X8 0 1 ![0, 0, 1] inb_S4x128x128_S1x128x1_0_0_1 rfl, readAt_one arg8.view X8 0 ![0, 0, 2] inb_S4x128x128_S1x1x1_0_0_2 rfl]
  rw [readAt_st arg10.view f10 0 ![0, 0, 0, 0] inb_S1x4x128x128_S1x1x128x128_0_0_0_0 rfl]
  rw [readAt_blk arg2.view X2 (k0_off3 k) (k0_off3_inb k) k.val 1 hk (by decide) (k0_off3_eq k)]
  rw [readAt_blk arg3.view X3 (k0_off3 k) (k0_off3_inb k) k.val 1 hk (by decide) (k0_off3_eq k)]
  rw [readAt_col arg8.view X8 1 1 ![1, 0, 1] inb_S4x128x128_S1x128x1_1_0_1 rfl, readAt_one arg8.view X8 1 ![1, 0, 2] inb_S4x128x128_S1x1x1_1_0_2 rfl]
  rw [readAt_st arg10.view f10 1 ![0, 1, 0, 0] inb_S1x4x128x128_S1x1x128x128_0_1_0_0 rfl]
  rw [readAt_blk arg2.view X2 (k0_off4 k) (k0_off4_inb k) k.val 2 hk (by decide) (k0_off4_eq k)]
  rw [readAt_blk arg3.view X3 (k0_off4 k) (k0_off4_inb k) k.val 2 hk (by decide) (k0_off4_eq k)]
  rw [readAt_col arg8.view X8 2 1 ![2, 0, 1] inb_S4x128x128_S1x128x1_2_0_1 rfl, readAt_one arg8.view X8 2 ![2, 0, 2] inb_S4x128x128_S1x1x1_2_0_2 rfl]
  rw [readAt_st arg10.view f10 2 ![0, 2, 0, 0] inb_S1x4x128x128_S1x1x128x128_0_2_0_0 rfl]
  rw [readAt_blk arg2.view X2 (k0_off5 k) (k0_off5_inb k) k.val 3 hk (by decide) (k0_off5_eq k)]
  rw [readAt_blk arg3.view X3 (k0_off5 k) (k0_off5_inb k) k.val 3 hk (by decide) (k0_off5_eq k)]
  rw [readAt_col arg8.view X8 3 1 ![3, 0, 1] inb_S4x128x128_S1x128x1_3_0_1 rfl, readAt_one arg8.view X8 3 ![3, 0, 2] inb_S4x128x128_S1x1x1_3_0_2 rfl]
  rw [readAt_st arg10.view f10 3 ![0, 3, 0, 0] inb_S1x4x128x128_S1x1x128x128_0_3_0_0 rfl]
  rw [readAt_rows arg5.view X5 (k0_off1 k) (k0_off1_inb k) k.val hk (k0_off1_eq k)]
  rw [readAt_rows arg6.view X6 (k0_off1 k) (k0_off1_inb k) k.val hk (k0_off1_eq k)]

end Cert.Ret
-- ==== Proof.Loop.lean ====
/- The retention kernel's loop over the 16 chunks of a block: what the output block and the state hold
   after it, as functions of the vectors of the block. -/
module

public import proofs.«01_k».proof.Proof.Trip

@[expose] public section

set_option maxRecDepth 16384

noncomputable section

namespace Cert.Ret

open Idealize.ShloMosaic Idealize.ShloMosaic.TcCoe Idealize.SL.Sem
open Cert.KernelIdeal Cert.KernelIdeal.Gen

variable {F : FTy → Type} [FloatOps F]

/-- The state after `n` chunks, of the block's keys and values and the tables. -/
def stV (xk xv : Vec F S2048x512 .f32) (cs sn : Vec F S2048x128 .f32) (co : Vec F S4x128x128 .f32) : ℕ → Vec F S1x4x128x128 .f32
  | 0 => k0_pay1
  | n + 1 => fun j => tileS (rows cs n) (rows sn n) (blk xk n (j 1).val) (blk xv n (j 1).val) (colH co (j 1) 1) (oneH co (j 1))
      (stH (stV xk xv cs sn co n) (j 1)) (ix4 0 0 (j 2) (j 3))

/-- The output block, of the block's vectors and the tables: at row `r` and column `l` the tile of chunk `r / 128` and head
    `l / 128`. -/
def ouV (xq xk xv xg : Vec F S2048x512 .f32) (cs sn : Vec F S2048x128 .f32) (dc co : Vec F S4x128x128 .f32) : Vec F S2048x512 .f32 :=
  fun j =>
    have h0 : (j 0).val < 2048 := (j 0).isLt
    have h1 : (j 1).val < 512 := (j 1).isLt
    let c := (j 0).val / 128
    let h : Fin 4 := ⟨(j 1).val / 128, by omega⟩
    tileO (rows cs c) (rows sn c) (blk xq c h.val) (blk xk c h.val) (blk xv c h.val) (blk xg c h.val) (colH co h 0) (matH dc h)
      (stH (stV xk xv cs sn co c) h) (ix2 ⟨(j 0).val % 128, Nat.mod_lt _ (by decide)⟩ ⟨(j 1).val % 128, Nat.mod_lt _ (by decide)⟩)

/-- The state read after one trip's four stores, one per head. -/
theorem read_st4 (v : View sig .tc .vmem S1x4x128x128 .f32) (f : v.ty.Contents (Elt F)) (w0 w1 w2 w3 : Vec F S1x1x128x128 .f32)
    (j : S1x4x128x128.Idx) :
    v.read (Elt F) (v.writes (Elt F) f
      [⟨Rect.unit (s := S1x4x128x128) ![0, 3, 0, 0] S1x1x128x128.size inb_S1x4x128x128_S1x1x128x128_0_3_0_0, w3⟩,
       ⟨Rect.unit (s := S1x4x128x128) ![0, 2, 0, 0] S1x1x128x128.size inb_S1x4x128x128_S1x1x128x128_0_2_0_0, w2⟩,
       ⟨Rect.unit (s := S1x4x128x128) ![0, 1, 0, 0] S1x1x128x128.size inb_S1x4x128x128_S1x1x128x128_0_1_0_0, w1⟩,
       ⟨Rect.unit (s := S1x4x128x128) ![0, 0, 0, 0] S1x1x128x128.size inb_S1x4x128x128_S1x1x128x128_0_0_0_0, w0⟩]) j
      = (![w0, w1, w2, w3] : Fin 4 → Vec F S1x1x128x128 .f32) (j 1) (ix4 0 0 (j 2) (j 3)) := by
  obtain ⟨a, h, b, c, rfl⟩ : ∃ (a : Fin 1) (h : Fin 4) (b c : Fin 128), j = ix4 a h b c :=
    ⟨j 0, j 1, j 2, j 3, by funext t; fin_cases t <;> rfl⟩
  obtain rfl : a = 0 := Subsingleton.elim _ _
  fin_cases h
  · rw [View.read_writes_cons_unit_of_not_mem v f inb_S1x4x128x128_S1x1x128x128_0_3_0_0 w3 _ _ rfl 1 (by left; show (0 : ℕ) < 3; decide)]
    rw [View.read_writes_cons_unit_of_not_mem v f inb_S1x4x128x128_S1x1x128x128_0_2_0_0 w2 _ _ rfl 1 (by left; show (0 : ℕ) < 2; decide)]
    rw [View.read_writes_cons_unit_of_not_mem v f inb_S1x4x128x128_S1x1x128x128_0_1_0_0 w1 _ _ rfl 1 (by left; show (0 : ℕ) < 1; decide)]
    exact View.read_writes_cons_unit_of_mem v f inb_S1x4x128x128_S1x1x128x128_0_0_0_0 w0 _ _ (ix4 0 0 b c) rfl
      (by intro a; fin_cases a <;> simp [ix4])
  · rw [View.read_writes_cons_unit_of_not_mem v f inb_S1x4x128x128_S1x1x128x128_0_3_0_0 w3 _ _ rfl 1 (by left; show (1 : ℕ) < 3; decide)]
    rw [View.read_writes_cons_unit_of_not_mem v f inb_S1x4x128x128_S1x1x128x128_0_2_0_0 w2 _ _ rfl 1 (by left; show (1 : ℕ) < 2; decide)]
    exact View.read_writes_cons_unit_of_mem v f inb_S1x4x128x128_S1x1x128x128_0_1_0_0 w1 _ _ (ix4 0 0 b c) rfl
      (by intro a; fin_cases a <;> simp [ix4])
  · rw [View.read_writes_cons_unit_of_not_mem v f inb_S1x4x128x128_S1x1x128x128_0_3_0_0 w3 _ _ rfl 1 (by left; show (2 : ℕ) < 3; decide)]
    exact View.read_writes_cons_unit_of_mem v f inb_S1x4x128x128_S1x1x128x128_0_2_0_0 w2 _ _ (ix4 0 0 b c) rfl
      (by intro a; fin_cases a <;> simp [ix4])
  · exact View.read_writes_cons_unit_of_mem v f inb_S1x4x128x128_S1x1x128x128_0_3_0_0 w3 _ _ (ix4 0 0 b c) rfl
      (by intro a; fin_cases a <;> simp [ix4])

/-- The output block read after one trip's four stores: the rows of chunk `k` are the four heads' tiles, the others are kept. -/
theorem read_ou4 (v : View sig .tc .vmem S2048x512 .f32) (f : v.ty.Contents (Elt F)) (w0 w1 w2 w3 : Vec F S128x128 .f32)
    (k : Fin k0_t1_loop.trips) (j : S2048x512.Idx) :
    v.read (Elt F) (v.writes (Elt F) f
      [⟨Rect.unit (s := S2048x512) (k0_off5 k) S128x128.size (k0_off5_inb k), w3⟩,
       ⟨Rect.unit (s := S2048x512) (k0_off4 k) S128x128.size (k0_off4_inb k), w2⟩,
       ⟨Rect.unit (s := S2048x512) (k0_off3 k) S128x128.size (k0_off3_inb k), w1⟩,
       ⟨Rect.unit (s := S2048x512) (k0_off2 k) S128x128.size (k0_off2_inb k), w0⟩]) j
      = if (j 0).val / 128 = k.val then
          (![w0, w1, w2, w3] : Fin 4 → Vec F S128x128 .f32) ⟨(j 1).val / 128, by have h1 : (j 1).val < 512 := (j 1).isLt; omega⟩
            (ix2 ⟨(j 0).val % 128, Nat.mod_lt _ (by decide)⟩ ⟨(j 1).val % 128, Nat.mod_lt _ (by decide)⟩)
        else v.read (Elt F) f j := by
  have h1 : (j 1).val < 512 := (j 1).isLt
  split
  · rename_i hc
    obtain hh | hh | hh | hh : (j 1).val / 128 = 0 ∨ (j 1).val / 128 = 1 ∨ (j 1).val / 128 = 2 ∨ (j 1).val / 128 = 3 := by omega
    · rw [View.read_writes_cons_unit_of_not_mem v f (k0_off5_inb k) w3 _ j (k0_off5_eq k) 1 (by show (j 1).val < 384 ∨ 384 + 128 ≤ (j 1).val; omega)]
      rw [View.read_writes_cons_unit_of_not_mem v f (k0_off4_inb k) w2 _ j (k0_off4_eq k) 1 (by show (j 1).val < 256 ∨ 256 + 128 ≤ (j 1).val; omega)]
      rw [View.read_writes_cons_unit_of_not_mem v f (k0_off3_inb k) w1 _ j (k0_off3_eq k) 1 (by show (j 1).val < 128 ∨ 128 + 128 ≤ (j 1).val; omega)]
      refine (View.read_writes_cons_unit_of_mem v f (k0_off2_inb k) w0 _ j
        (ix2 ⟨(j 0).val % 128, Nat.mod_lt _ (by decide)⟩ ⟨(j 1).val % 128, Nat.mod_lt _ (by decide)⟩) (k0_off2_eq k) ?_).trans ?_
      · intro a
        fin_cases a
        · show (j 0).val = 128 * k.val + (j 0).val % 128
          omega
        · show (j 1).val = 0 + (j 1).val % 128
          omega
      · rw [show (⟨(j 1).val / 128, _⟩ : Fin 4) = 0 from Fin.ext hh]
        rfl
    · rw [View.read_writes_cons_unit_of_not_mem v f (k0_off5_inb k) w3 _ j (k0_off5_eq k) 1 (by show (j 1).val < 384 ∨ 384 + 128 ≤ (j 1).val; omega)]
      rw [View.read_writes_cons_unit_of_not_mem v f (k0_off4_inb k) w2 _ j (k0_off4_eq k) 1 (by show (j 1).val < 256 ∨ 256 + 128 ≤ (j 1).val; omega)]
      refine (View.read_writes_cons_unit_of_mem v f (k0_off3_inb k) w1 _ j
        (ix2 ⟨(j 0).val % 128, Nat.mod_lt _ (by decide)⟩ ⟨(j 1).val % 128, Nat.mod_lt _ (by decide)⟩) (k0_off3_eq k) ?_).trans ?_
      · intro a
        fin_cases a
        · show (j 0).val = 128 * k.val + (j 0).val % 128
          omega
        · show (j 1).val = 128 + (j 1).val % 128
          omega
      · rw [show (⟨(j 1).val / 128, _⟩ : Fin 4) = 1 from Fin.ext hh]
        rfl
    · rw [View.read_writes_cons_unit_of_not_mem v f (k0_off5_inb k) w3 _ j (k0_off5_eq k) 1 (by show (j 1).val < 384 ∨ 384 + 128 ≤ (j 1).val; omega)]
      refine (View.read_writes_cons_unit_of_mem v f (k0_off4_inb k) w2 _ j
        (ix2 ⟨(j 0).val % 128, Nat.mod_lt _ (by decide)⟩ ⟨(j 1).val % 128, Nat.mod_lt _ (by decide)⟩) (k0_off4_eq k) ?_).trans ?_
      · intro a
        fin_cases a
        · show (j 0).val = 128 * k.val + (j 0).val % 128
          omega
        · show (j 1).val = 256 + (j 1).val % 128
          omega
      · rw [show (⟨(j 1).val / 128, _⟩ : Fin 4) = 2 from Fin.ext hh]
        rfl
    · refine (View.read_writes_cons_unit_of_mem v f (k0_off5_inb k) w3 _ j
        (ix2 ⟨(j 0).val % 128, Nat.mod_lt _ (by decide)⟩ ⟨(j 1).val % 128, Nat.mod_lt _ (by decide)⟩) (k0_off5_eq k) ?_).trans ?_
      · intro a
        fin_cases a
        · show (j 0).val = 128 * k.val + (j 0).val % 128
          omega
        · show (j 1).val = 384 + (j 1).val % 128
          omega
      · rw [show (⟨(j 1).val / 128, _⟩ : Fin 4) = 3 from Fin.ext hh]
        rfl
  · rename_i hc
    rw [View.read_writes_cons_unit_of_not_mem v f (k0_off5_inb k) w3 _ j (k0_off5_eq k) 0 (by show (j 0).val < 128 * k.val ∨ 128 * k.val + 128 ≤ (j 0).val; omega),
      View.read_writes_cons_unit_of_not_mem v f (k0_off4_inb k) w2 _ j (k0_off4_eq k) 0 (by show (j 0).val < 128 * k.val ∨ 128 * k.val + 128 ≤ (j 0).val; omega),
      View.read_writes_cons_unit_of_not_mem v f (k0_off3_inb k) w1 _ j (k0_off3_eq k) 0 (by show (j 0).val < 128 * k.val ∨ 128 * k.val + 128 ≤ (j 0).val; omega),
      View.read_writes_cons_unit_of_not_mem v f (k0_off2_inb k) w0 _ j (k0_off2_eq k) 0 (by show (j 0).val < 128 * k.val ∨ 128 * k.val + 128 ≤ (j 0).val; omega)]
    rfl

set_option maxHeartbeats 2000000 in
/-- After `n` trips: the state is `stV … n`, and the rows of the first `n` chunks of the output block are `ouV`'s. -/
theorem loop_value (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S2048x512 .f32) (harg9 : arg9.IsWhole) (arg10 : Memref sig .tc .vmem S1x4x128x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty)
    (hG : arg10.view.read (Elt F) G10 = k0_pay1) : ∀ n, n ≤ 16 →
    arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 X1 X2 X3 X4 X5 X6 X7 X8 G9 G10 n).2)
        = stV (arg2.view.read (Elt F) X2) (arg3.view.read (Elt F) X3) (arg5.view.read (Elt F) X5) (arg6.view.read (Elt F) X6)
          (arg8.view.read (Elt F) X8) n
      ∧ ∀ j : S2048x512.Idx, (j 0).val < 128 * n → arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 X1 X2 X3 X4 X5 X6 X7 X8 G9 G10 n).1) j
        = ouV (arg1.view.read (Elt F) X1) (arg2.view.read (Elt F) X2) (arg3.view.read (Elt F) X3) (arg4.view.read (Elt F) X4)
          (arg5.view.read (Elt F) X5) (arg6.view.read (Elt F) X6) (arg7.view.read (Elt F) X7) (arg8.view.read (Elt F) X8) j
  | 0, _ => ⟨by rw [pb_k0_t1.eq_1]; exact hG, fun j h => absurd h (by omega)⟩
  | n + 1, hn => by
    obtain ⟨ihS, ihO⟩ := loop_value 𝒱 c bd i arg1 harg1 arg2 harg2 arg3 harg3 arg4 harg4 arg5 harg5 arg6 harg6 arg7 harg7 arg8 harg8 arg9 harg9 arg10 harg10 X1 X2 X3 X4 X5 X6 X7 X8 G9 G10 hG n (by omega)
    have ht : n < k0_t1_loop.trips := lt_of_lt_of_eq (show n < 16 by omega) (by decide)
    have hs := pb_k0_t1_succ (F := F) 𝒱 c bd i arg1 harg1 arg2 harg2 arg3 harg3 arg4 harg4 arg5 harg5 arg6 harg6 arg7 harg7 arg8 harg8 arg9 harg9 arg10 harg10 X1 X2 X3 X4 X5 X6 X7 X8 G9 G10 ⟨n, ht⟩
    simp only at hs
    rw [hs]
    refine ⟨?_, fun j hj => ?_⟩
    · rw [View.writes_append, tripS]
      funext j
      rw [read_st4, ihS]
      show _ = tileS _ _ _ _ _ _ _ _
      generalize j 1 = h
      generalize (ix4 0 0 (j 2) (j 3) : S1x1x128x128.Idx) = y
      fin_cases h <;> rfl
    · rw [View.writes_append, tripO, read_ou4, ihS]
      split
      · rename_i hc
        have hc : (j 0).val / 128 = n := hc
        unfold ouV
        have h1 : (j 1).val < 512 := (j 1).isLt
        obtain hh | hh | hh | hh : (j 1).val / 128 = 0 ∨ (j 1).val / 128 = 1 ∨ (j 1).val / 128 = 2 ∨ (j 1).val / 128 = 3 := by omega
        all_goals
          simp only [hc, hh]
          rfl
      · rename_i hc
        have hc : ¬ (j 0).val / 128 = n := hc
        exact ihO j (by omega)

end Cert.Ret
-- ==== Proof.Frame.lean ====
/- The retention kernel's run on the cores: one grid point's body leaves the output block and the state that `Loop` names, so
   the whole launch leaves each block of the two output arrays at those values, and the argument as it was. -/
module

public import proofs.«01_k».proof.Proof.Loop
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- One grid point's body on whole staging memrefs: the inputs end as they were, the output block at `ouV`, the state at `stV`
    after 16 chunks. -/
theorem body_run (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S2048x512 .f32) (harg9 : arg9.IsWhole) (arg10 : Memref sig .tc .vmem S1x4x128x128 .f32) (harg10 : arg10.IsWhole)
    (x0 x1 x2 x3 : Vec F S2048x512 .f32) (x4 x5 : Vec F S2048x128 .f32) (x6 x7 : Vec F S4x128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ouV x0 x1 x2 x3 x4 x5 x6 x7) ∗ owns (c : Thread nD τ) arg10 fullShare (stV x1 x2 x4 x5 x7 16)) -∗ K ⟨⟩))
      ⊢ wp frame (wpE (defs₀ (F := F)) Variants.none c none) E (cc0_ret_prompt i arg1 harg1 arg2 harg2 arg3 harg3 arg4 harg4 arg5 harg5 arg6 harg6 arg7 harg7 arg8 harg8 arg9 harg9 arg10 harg10) K := by
  simp only [cc0_ret_prompt_eq_skeleton]; unfold cc0_ret_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  have hz : arg10.view.read (Elt F) (arg10.view.writes (Elt F) arg10.view.junk body_run.sl.H9_1) = (k0_pay1 (F := F)) := by
    unfold body_run.sl.H9_1
    funext y
    exact View.read_writes_cons_unit_of_mem _ _ inb_S1x4x128x128_S1x4x128x128_0_0_0_0 _ _ _ y rfl (by intro a; fin_cases a <;> exact (Nat.zero_add _).symm)
  have ht : Scf.trips k0_t1_loop.lb k0_t1_loop.ub k0_t1_loop.st = 16 := by decide
  have hl := loop_value (F := F) Variants.none c none i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) (harg8.unread x7) f8 _ hz 16 le_rfl
  simp only [harg1.read_unread, harg2.read_unread, harg3.read_unread, harg4.read_unread, harg5.read_unread, harg6.read_unread, harg7.read_unread, harg8.read_unread] at hl
  isplitl [H8]
  · iexists _; isplitr
    swap; · iexact H8
    ipureintro
    funext j
    rw [ht]
    exact hl.2 j (j 0).isLt
  iexists _; isplitr
  swap; · iexact H9
  ipureintro
  rw [ht, View.writes_append]
  exact hl.1

/-! ## The pipeline's proof data -/

/-- What the output block's buffer holds after the body at point `t`. -/
def o8 (c : Dev nD) (t : Fin cfg0.N) : Vec F S2048x512 .f32 := ouV (iblk m c 0 t) (iblk m c 1 t) (iblk m c 2 t) (iblk m c 3 t) (iblk m c 4 t) (iblk m c 5 t) (iblk m c 6 t) (iblk m c 7 t)

/-- What the state's buffer holds after the body at point `t`. -/
def o9 (c : Dev nD) (t : Fin cfg0.N) : Vec F S1x4x128x128 .f32 :=
  stV (iblk m c 1 t) (iblk m c 2 t) (iblk m c 4 t) (iblk m c 5 t) (iblk m c 7 t) 16

/-- The proof data on core `c`: arrays as the region finds them, each input's buffer at its block, the outputs' at `o8`, `o9`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 m c t
    | ⟨9, _⟩ => o9 m c t
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by dsimp only [dats]

/-- Window 0's buffer after the body. -/
theorem aft0 (c : Dev nD) (t : Fin cfg0.N) : (dats m 0 c).after 0 t = iblk m c 0 t := by dsimp only [dats]
/-- Window 1's buffer after the body. -/
theorem aft1 (c : Dev nD) (t : Fin cfg0.N) : (dats m 0 c).after 1 t = iblk m c 1 t := by dsimp only [dats]
/-- Window 2's buffer after the body. -/
theorem aft2 (c : Dev nD) (t : Fin cfg0.N) : (dats m 0 c).after 2 t = iblk m c 2 t := by dsimp only [dats]
/-- Window 3's buffer after the body. -/
theorem aft3 (c : Dev nD) (t : Fin cfg0.N) : (dats m 0 c).after 3 t = iblk m c 3 t := by dsimp only [dats]
/-- Window 4's buffer after the body. -/
theorem aft4 (c : Dev nD) (t : Fin cfg0.N) : (dats m 0 c).after 4 t = iblk m c 4 t := by dsimp only [dats]
/-- Window 5's buffer after the body. -/
theorem aft5 (c : Dev nD) (t : Fin cfg0.N) : (dats m 0 c).after 5 t = iblk m c 5 t := by dsimp only [dats]
/-- Window 6's buffer after the body. -/
theorem aft6 (c : Dev nD) (t : Fin cfg0.N) : (dats m 0 c).after 6 t = iblk m c 6 t := by dsimp only [dats]
/-- Window 7's buffer after the body. -/
theorem aft7 (c : Dev nD) (t : Fin cfg0.N) : (dats m 0 c).after 7 t = iblk m c 7 t := by dsimp only [dats]
/-- Window 8's buffer after the body. -/
theorem aft8 (c : Dev nD) (t : Fin cfg0.N) : (dats m 0 c).after 8 t = o8 m c t := by dsimp only [dats]
/-- Window 9's buffer after the body. -/
theorem aft9 (c : Dev nD) (t : Fin cfg0.N) : (dats m 0 c).after 9 t = o9 m c t := by dsimp only [dats]
/-- Window 0's buffer before the body. -/
theorem bef0 (c : Dev nD) (t : Fin cfg0.N) (d) : (dats m 0 c).before 0 t d = iblk m c 0 t :=
  before0_0_of m (dats m 0 c) (A_eq m c 0) (aft0 m c) t d
/-- Window 1's buffer before the body. -/
theorem bef1 (c : Dev nD) (t : Fin cfg0.N) (d) : (dats m 0 c).before 1 t d = iblk m c 1 t :=
  before0_1_of m (dats m 0 c) (A_eq m c 1) (aft1 m c) t d
/-- Window 2's buffer before the body. -/
theorem bef2 (c : Dev nD) (t : Fin cfg0.N) (d) : (dats m 0 c).before 2 t d = iblk m c 2 t :=
  before0_2_of m (dats m 0 c) (A_eq m c 2) (aft2 m c) t d
/-- Window 3's buffer before the body. -/
theorem bef3 (c : Dev nD) (t : Fin cfg0.N) (d) : (dats m 0 c).before 3 t d = iblk m c 3 t :=
  before0_3_of m (dats m 0 c) (A_eq m c 3) (aft3 m c) t d
/-- Window 4's buffer before the body. -/
theorem bef4 (c : Dev nD) (t : Fin cfg0.N) (d) : (dats m 0 c).before 4 t d = iblk m c 4 t :=
  before0_4_of m (dats m 0 c) (A_eq m c 4) (aft4 m c) t d
/-- Window 5's buffer before the body. -/
theorem bef5 (c : Dev nD) (t : Fin cfg0.N) (d) : (dats m 0 c).before 5 t d = iblk m c 5 t :=
  before0_5_of m (dats m 0 c) (A_eq m c 5) (aft5 m c) t d
/-- Window 6's buffer before the body. -/
theorem bef6 (c : Dev nD) (t : Fin cfg0.N) (d) : (dats m 0 c).before 6 t d = iblk m c 6 t :=
  before0_6_of m (dats m 0 c) (A_eq m c 6) (aft6 m c) t d
/-- Window 7's buffer before the body. -/
theorem bef7 (c : Dev nD) (t : Fin cfg0.N) (d) : (dats m 0 c).before 7 t d = iblk m c 7 t :=
  before0_7_of m (dats m 0 c) (A_eq m c 7) (aft7 m c) t d

/-- What the body is called with at point `t`. -/
def preAt (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def postAt (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point, from the blocks of its inputs. -/
theorem body_at (c : Dev nD) (t : Fin cfg0.N) :
    preAt m c t ⊢ wp frame (wpE (defs₀ (F := F)) Variants.none c none) Set.univ (bodyAt0 t) (fun _ => postAt m c t) := by
  unfold preAt postAt bodyAt0
  simp only [bef0, bef1, bef2, bef3, bef4, bef5, bef6, bef7]
  rw [show (dats m 0 c).Φ t.succ = (dats m 0 c).Φ t.castSucc from rfl,
    show (dats m 0 c).owesAt () t.succ = (dats m 0 c).owesAt () t.castSucc from rfl,
    aft0, aft1, aft2, aft3, aft4, aft5, aft6, aft7, aft8, aft9]
  unfold o8 o9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body. -/
theorem row_at (t : Fin cfg0.N) : defs₀ (F := F) .tc cfg0.body (cfg0.bodyArgs t (cfg0.slots t)) = bodyAt0 t := by
  unfold defs₀; rw [Defs.onTc_tc]

/-- The library's obligation on the body, at every point. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

/-! ## The run -/

set_option backward.isDefEq.respectTransparency.types false in
/-- The launch: every array of the pipeline ends at what the proof data says, and every semaphore counter at zero. -/
theorem launch : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The run, for any values: both result arrays at what the proof data says, the argument unchanged, every counter zero. -/
theorem run_all : θ_run defs (onTc (τ := τ) (main (F := F))) ⟨m, fun _ => 0, ρ⟩ (fun r => (∀ c : Dev nD,
      r.2.mem ((c : Thread nD τ).loc main_v69_0) = (dats m 0 c).arrAt 8 cfg0.N
      ∧ r.2.mem ((c : Thread nD τ).loc main_v69_1) = (dats m 0 c).arrAt 9 cfg0.N
      ∧ r.2.mem ((c : Thread nD τ).loc main_arg0) = m ((c : Thread nD τ).loc main_arg0)) ∧ r.2.sem = fun _ => 0) :=
  (θ_run defs _ _).mono (fun r h => ⟨fun c => ⟨(h.1 c).1 8, (h.1 c).1 9,
    ((h.1 c).1 3).trans (((dats m 0 c).arrAt_in 3 rfl _).trans ((A_eq m c 3).trans (V_main_arg0 m c)))⟩, h.2⟩) (launch m ρ)

/-! ## The blocks of the two result arrays -/

/-- Block `t` of the output array is what point `t` computes. -/
theorem block8 (c : Dev nD) (t : Fin cfg0.N) (hf : (cfg0.win 8).flush t = true) :
    ((cfg0.win 8).blk t).view.read (Elt F) ((dats m 0 c).arrAt 8 cfg0.N) = (cfg0.win 8).cut (grid0.coords t) (o8 m c t) := by
  rw [← aft8]
  exact (dats m 0 c).read_blk_arrAt_eq_flushed 8 (fun t t' _ _ hne => (cfg0.win 8).disjoint_blk fun h => hne
    ((by decide +kernel : ∀ t t' : Fin grid0.N, win0_8.index t = win0_8.index t' → t = t') t t' h)) cfg0.N t t.isLt hf

/-- Block `t` of the state array is what point `t` computes. -/
theorem block9 (c : Dev nD) (t : Fin cfg0.N) (hf : (cfg0.win 9).flush t = true) :
    ((cfg0.win 9).blk t).view.read (Elt F) ((dats m 0 c).arrAt 9 cfg0.N) = (cfg0.win 9).cut (grid0.coords t) (o9 m c t) := by
  rw [← aft9]
  exact (dats m 0 c).read_blk_arrAt_eq_flushed 9 (fun t t' _ _ hne => (cfg0.win 9).disjoint_blk fun h => hne
    ((by decide +kernel : ∀ t t' : Fin grid0.N, win0_9.index t = win0_9.index t' → t = t') t t' h)) cfg0.N t t.isLt hf

end Cert.Ret
-- ==== Proof.RefRun.lean ====
/- The reference's run as a sequence of states: `states A n` is what its scan over the chunks hands trip `n` (the retention
   state, the outputs so far, the chunked queries, keys and values), and the results are read off state 16. -/
module

public import proofs.«01_k».proof.Proof.Gen.ReferenceIdeal.Run
public import proofs.«01_k».proof.Proof.Gen.ReferenceIdeal.Step
public import Idealize.ShloMosaic.Lib.Claim

@[expose] public section

set_option maxRecDepth 16384

noncomputable section

namespace Cert.RetRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- What the scan hands trip `n`, of the argument. -/
def states (A : Vec F S32768x3584 .f32) : ℕ → State F
  | 0 => init A
  | n + 1 => step n (states A n)

/-- The valuation `V0` holds the state `s`, the tables and the trip's number `j`. -/
structure At (V0 : Valuation τ sig (Elt F)) (s : State F) (j : ℕ) : Prop where
  acc : V0 (Proc.devRef .tc main_v130_8) = s.main_v130_8
  outs : V0 (Proc.devRef .tc main_v130_9) = s.main_v130_9
  qs : V0 (Proc.devRef .tc main_v130_0) = s.main_v130_0
  ks : V0 (Proc.devRef .tc main_v130_1) = s.main_v130_1
  vs : V0 (Proc.devRef .tc main_v130_2) = s.main_v130_2
  num : V0 (Proc.devRef .tc main_v130_7) = constantI S_ 32 (BitVec.ofNat 32 j)
  dec : V0 (Proc.devRef .tc main_v130_3) = K_main_v99 (F := F)
  xi : V0 (Proc.devRef .tc main_v130_4) = K_main_v108 (F := F)
  gch : V0 (Proc.devRef .tc main_v130_5) = K_main_v121 (F := F)
  zeta : V0 (Proc.devRef .tc main_v130_6) = K_main_v117 (F := F)

variable {V0 : Valuation τ sig (Elt F)} {s : State F} {j : ℕ}

/-- A trip's new retention state. -/
theorem At.acc_step (h : At V0 s j) : Value.step_main_v130_8 V0 = b35 j s := by
  unfold Value.step_main_v130_8 res_main_while0b_v157 res_main_while0b_v158
  rw [h.gch, h.acc, h.zeta, h.ks, h.vs, h.num]
  rfl

/-- A trip's new outputs. -/
theorem At.outs_step (h : At V0 s j) : Value.step_main_v130_9 V0 = b41 j s := by
  unfold Value.step_main_v130_9 res_main_while0b_v156 res_main_while0b_v157 res_main_while0b_v158
  rw [h.outs, h.dec, h.xi, h.acc, h.qs, h.ks, h.vs, h.num]
  rfl

/-- A trip's new number. -/
theorem At.num_step (h : At V0 s j) : step_main_v130_7 V0 = constantI S_ 32 (BitVec.ofNat 32 (j + 1)) := by
  unfold step_main_v130_7
  rw [h.num]
  funext i
  show BitVec.ofNat 32 j + 1#32 = BitVec.ofNat 32 (j + 1)
  simp only [BitVec.ofNat_add]

/-- One trip takes a valuation that holds a state to one that holds the next. -/
theorem At.next (h : At V0 s j) : At (STEP V0) (step j s) (j + 1) :=
  ⟨(STEP_main_v130_8 V0).trans h.acc_step, (STEP_main_v130_9 V0).trans h.outs_step, (STEP_main_v130_0 V0).trans h.qs,
    (STEP_main_v130_1 V0).trans h.ks, (STEP_main_v130_2 V0).trans h.vs, (STEP_main_v130_7 V0).trans h.num_step,
    (STEP_main_v130_3 V0).trans h.dec, (STEP_main_v130_4 V0).trans h.xi, (STEP_main_v130_5 V0).trans h.gch,
    (STEP_main_v130_6 V0).trans h.zeta⟩

variable (m : (ℓ : Loc nD τ sig) → Buf (Elt F) ℓ) (ρ : Dev nD → PrngReg) (c : Dev nD)

set_option maxRecDepth 65536 in
set_option maxHeartbeats 1000000 in
/-- What the operations before the scan leave. -/
theorem at_entry : At (entryContents preI m c) (states (m ((c.tc : Thread nD τ).loc main_arg0)) 0) 0 := by
  constructor <;> (simp only [entryContents, afterL_cons, afterL_nil]; after_reads_simp) <;> rfl

/-- After `n` trips the valuation holds state `n`. -/
theorem at_iter : ∀ n, At (STEP^[n] (entryContents preI m c)) (states (m ((c.tc : Thread nD τ).loc main_arg0)) n) n
  | 0 => at_entry m c
  | n + 1 => by
    rw [Function.iterate_succ_apply']
    exact (at_iter n).next

set_option maxRecDepth 65536 in
/-- What the operations after the scan make of a state. -/
theorem At.out (h : At V0 s j) {A : Vec F S32768x3584 .f32} (hA : V0 (Proc.devRef .tc main_arg0) = A) :
    out_main_v155 V0 = R_main_v155 s A := by
  unfold out_main_v155
  rw [h.outs, hA]
  rfl

/-- The reference's run: each result of state 16, the argument unchanged. -/
theorem run : θ_run (defs (F := F)) (onTc (τ := τ) (main (F := F))) ⟨m, fun _ => 0, ρ⟩ fun r => ∀ c : Dev nD,
      r.2.mem ((c.tc : Thread nD τ).loc main_v155)
          = R_main_v155 (states (m ((c.tc : Thread nD τ).loc main_arg0)) 16) (m ((c.tc : Thread nD τ).loc main_arg0))
      ∧ r.2.mem ((c.tc : Thread nD τ).loc main_v130_8) = (states (m ((c.tc : Thread nD τ).loc main_arg0)) 16).main_v130_8
      ∧ r.2.mem ((c.tc : Thread nD τ).loc main_arg0) = m ((c.tc : Thread nD τ).loc main_arg0) :=
  (θ_run defs _ _).mono (fun _ h c => ⟨(h c).1.trans ((at_iter m c 16).out (iter_main_arg0 m c 16)),
    (h c).2.1.trans (at_iter m c 16).acc, (h c).2.2⟩) (Value.run m ρ)

end Cert.RetRef
-- ==== Proof.Windows.lean ====
/- What the retention launch reads: its blocks of the projected activations, and its host tables, which are the reference's. -/
module

public import proofs.«01_k».proof.Proof.Frame
public import proofs.«01_k».proof.Proof.Gen.ReferenceIdeal.Step
public import Idealize.ShloMosaic.Lib.Pointwise
public import Idealize.ShloMosaic.Lib.StableHlo.RunRead
public import Idealize.ShloMosaic.PureOps.Ideal

@[expose] public section

set_option maxRecDepth 65536

noncomputable section

namespace Cert.Ret

open Cert.KernelIdeal Cert.KernelIdeal.Gen Idealize.ShloMosaic Idealize.ShloMosaic.TcCoe Idealize.ShloMosaic.StableHlo Idealize.SL.Sem
open Cert.ReferenceIdeal.Step (K_main_v19 K_main_v21 K_main_v99 K_main_v108 K_main_v117 K_main_v121)

variable (m : (ℓ : Loc nD τ sig) → Buf (Elt Ideal) ℓ) (c : Dev nD)

/-- The cosines the kernel is given: the reference's 64 columns twice. -/
theorem tab4 (r : Fin 2048) (j : Fin 128) : (V m c main_v15 : Vec Ideal S2048x128 .f32) (ix2 r j)
    = K_main_v19 (F := Ideal) (ix2 r ⟨if j.val < 64 then j.val else j.val - 64, by split <;> omega⟩) := by
  have e : (V m c main_v15 : Vec Ideal S2048x128 .f32)
      = concatenate S2048x128 1 [⟨S2048x64, K_main_v19 (F := Ideal)⟩, ⟨S2048x64, K_main_v19 (F := Ideal)⟩] (by decide) := by
    unfold V
    after_reads_simp
    rfl
  rw [e]
  pointwise
  split <;> rfl
/-- The signed sines the kernel is given. -/
theorem tab5 (r : Fin 2048) (j : Fin 128) : (V m c main_v17 : Vec Ideal S2048x128 .f32) (ix2 r j)
    = if h : j.val < 64 then - K_main_v21 (F := Ideal) (ix2 r ⟨j.val, h⟩) else K_main_v21 (F := Ideal) (ix2 r ⟨j.val - 64, by omega⟩) := by
  have e : (V m c main_v17 : Vec Ideal S2048x128 .f32)
      = concatenate S2048x128 1 [⟨S2048x64, Host.negf (F := Ideal) (φ := .f32) (K_main_v21 (F := Ideal))⟩, ⟨S2048x64, K_main_v21 (F := Ideal)⟩] (by decide) := by
    unfold V
    after_reads_simp
    rfl
  rw [e]
  pointwise

/-- The buffers' contents before the last three host operations. -/
abbrev U (b : Ref sig .tc) : Buf (Elt Ideal) ((c.tc : Thread nD τ).loc b) :=
  upto (List.flatten [hostOps0, hostOps0_1, hostOps0_2, hostOps0_3]) (fun b => m (c, b)) 80 (Proc.devRef .tc b)

/-- Three columns side by side, filled up to 128. -/
def three (x y z : Vec Ideal S4x128x1 .f32) : Vec Ideal S4x128x128 .f32 :=
  pad S4x128x128 ![0, 0, 0] ![0, 0, 125] ![0, 0, 0]
    (concatenate S4x128x3 2 [⟨S4x128x1, x⟩, ⟨S4x128x1, y⟩, ⟨S4x128x1, z⟩] concatenates_S4x128x1_S4x128x1_S4x128x1_S4x128x3_d2)
    (sitofp (F := Ideal) FTy.f32 (constantI S_ 32 0#32)) pads_S4x128x3_S4x128x128_000_000_01250 h_S_

/-- The first of the three columns. -/
theorem three0 (x y z : Vec Ideal S4x128x1 .f32) (h : Fin 4) (r : Fin 128) : three x y z (ix3 h r 0) = x (ix3 h r 0) := by
  unfold three
  pointwise
/-- The second of the three columns. -/
theorem three1 (x y z : Vec Ideal S4x128x1 .f32) (h : Fin 4) (r : Fin 128) : three x y z (ix3 h r 1) = y (ix3 h r 0) := by
  unfold three
  pointwise
/-- The third of the three columns. -/
theorem three2 (x y z : Vec Ideal S4x128x1 .f32) (h : Fin 4) (r : Fin 128) : three x y z (ix3 h r 2) = z (ix3 h r 0) := by
  unfold three
  pointwise

set_option maxHeartbeats 2000000 in
/-- The three decay columns the kernel is given, in the reference's names. -/
theorem tab7 : (V m c main_v68 : Vec Ideal S4x128x128 .f32) = three (K_main_v108 (F := Ideal)) (K_main_v117 (F := Ideal))
    (broadcastInDim S4x128x1 ![0, 1] bcast_S4x128_S4x128x1_0_1 (broadcastInDim S4x128 ![0, 1] bcast_S4x1_S4x128_0_1
      (broadcastInDim S4x1 ![0] bcast_S4_S4x1_0 (Cert.ReferenceIdeal.Step.K_main_v120 (F := Ideal))))) := by
  have e1 : (U m c main_v64 : Vec Ideal S4x128x1 .f32) = K_main_v108 (F := Ideal) := by
    after_reads_simp
    rfl
  have e2 : (U m c main_v65 : Vec Ideal S4x128x1 .f32) = K_main_v117 (F := Ideal) := by
    after_reads_simp
    rfl
  have e3 : (U m c main_v66 : Vec Ideal S4x128x1 .f32) = (broadcastInDim S4x128x1 ![0, 1] bcast_S4x128_S4x128x1_0_1 (broadcastInDim S4x128 ![0, 1] bcast_S4x1_S4x128_0_1
      (broadcastInDim S4x1 ![0] bcast_S4_S4x1_0 (Cert.ReferenceIdeal.Step.K_main_v120 (F := Ideal))))) := by
    after_reads_simp
    rfl
  have e : (V m c main_v68 : Vec Ideal S4x128x128 .f32) = three (U m c main_v64) (U m c main_v65) (U m c main_v66) := by
    unfold V
    generalize hx : three _ _ _ = x
    after_reads_simp
    simp only [Matrix.cons_val_zero, Matrix.cons_val_one, Matrix.cons_val]
    exact hx
  rw [e, e1, e2, e3]

/-- The queries' decay is the reference's. -/
theorem tab7_0 (h : Fin 4) (r : Fin 128) : (V m c main_v68 : Vec Ideal S4x128x128 .f32) (ix3 h r 0) = K_main_v108 (F := Ideal) (ix3 h r 0) := by
  rw [tab7, three0]
/-- The keys' decay is the reference's. -/
theorem tab7_1 (h : Fin 4) (r : Fin 128) : (V m c main_v68 : Vec Ideal S4x128x128 .f32) (ix3 h r 1) = K_main_v117 (F := Ideal) (ix3 h r 0) := by
  rw [tab7, three1]
/-- The chunk's decay is the reference's. -/
theorem tab7_2 (h : Fin 4) (r : Fin 128) : (V m c main_v68 : Vec Ideal S4x128x128 .f32) (ix3 h r 2) = K_main_v121 (F := Ideal) (ix3 h 0 0) := by
  rw [tab7, three2]
  unfold K_main_v121
  pointwise
/-- The decay masks are the reference's. -/
theorem tab6  : (V m c main_v42 : Vec Ideal S4x128x128 .f32) = K_main_v99 (F := Ideal) := by
  unfold V
  after_reads_simp
  rfl

/-- The activations' cell that row `r`, column `j` of point `t`'s rows names. -/
def cell (A : Vec Ideal S32768x3584 .f32) (t : Fin 16) (r : Fin 2048) (j : Fin 3584) : EReal :=
  A (ix2 ⟨t.val * 2048 + r.val, by omega⟩ j)

/-- Where window 0 stands at each point. -/
theorem row0 : ∀ t : Fin grid0.N, win0_0.index t 0 = t.val ∧ win0_0.index t 1 = 1 := by decide +kernel
/-- Window 0's block. -/
theorem iblk0 (t : Fin cfg0.N) (r : Fin 2048) (l : Fin 512) : (iblk m c 0 t : Vec Ideal S2048x512 .f32) (ix2 r l)
    = cell (m (c.tc.loc main_arg0)) t r ⟨512 + l.val, by omega⟩ := by
  unfold iblk cell
  rw [View.read_apply]
  show V m c main_arg0 _ = _
  rw [V_main_arg0]
  congr 1
  funext a
  apply Fin.ext
  match a with
  | ⟨0, _⟩ =>
    show win0_0.index t 0 * 2048 + 1 * r.val = t.val * 2048 + r.val
    rw [(row0 t).1]
    omega
  | ⟨1, _⟩ =>
    show win0_0.index t 1 * 512 + 1 * l.val = 512 + l.val
    rw [(row0 t).2]
    omega

/-- Where window 1 stands at each point. -/
theorem row1 : ∀ t : Fin grid0.N, win0_1.index t 0 = t.val ∧ win0_1.index t 1 = 2 := by decide +kernel
/-- Window 1's block. -/
theorem iblk1 (t : Fin cfg0.N) (r : Fin 2048) (l : Fin 512) : (iblk m c 1 t : Vec Ideal S2048x512 .f32) (ix2 r l)
    = cell (m (c.tc.loc main_arg0)) t r ⟨1024 + l.val, by omega⟩ := by
  unfold iblk cell
  rw [View.read_apply]
  show V m c main_arg0 _ = _
  rw [V_main_arg0]
  congr 1
  funext a
  apply Fin.ext
  match a with
  | ⟨0, _⟩ =>
    show win0_1.index t 0 * 2048 + 1 * r.val = t.val * 2048 + r.val
    rw [(row1 t).1]
    omega
  | ⟨1, _⟩ =>
    show win0_1.index t 1 * 512 + 1 * l.val = 1024 + l.val
    rw [(row1 t).2]
    omega

/-- Where window 2 stands at each point. -/
theorem row2 : ∀ t : Fin grid0.N, win0_2.index t 0 = t.val ∧ win0_2.index t 1 = 3 := by decide +kernel
/-- Window 2's block. -/
theorem iblk2 (t : Fin cfg0.N) (r : Fin 2048) (l : Fin 512) : (iblk m c 2 t : Vec Ideal S2048x512 .f32) (ix2 r l)
    = cell (m (c.tc.loc main_arg0)) t r ⟨1536 + l.val, by omega⟩ := by
  unfold iblk cell
  rw [View.read_apply]
  show V m c main_arg0 _ = _
  rw [V_main_arg0]
  congr 1
  funext a
  apply Fin.ext
  match a with
  | ⟨0, _⟩ =>
    show win0_2.index t 0 * 2048 + 1 * r.val = t.val * 2048 + r.val
    rw [(row2 t).1]
    omega
  | ⟨1, _⟩ =>
    show win0_2.index t 1 * 512 + 1 * l.val = 1536 + l.val
    rw [(row2 t).2]
    omega

/-- Where window 3 stands at each point. -/
theorem row3 : ∀ t : Fin grid0.N, win0_3.index t 0 = t.val ∧ win0_3.index t 1 = 4 := by decide +kernel
/-- Window 3's block. -/
theorem iblk3 (t : Fin cfg0.N) (r : Fin 2048) (l : Fin 512) : (iblk m c 3 t : Vec Ideal S2048x512 .f32) (ix2 r l)
    = cell (m (c.tc.loc main_arg0)) t r ⟨2048 + l.val, by omega⟩ := by
  unfold iblk cell
  rw [View.read_apply]
  show V m c main_arg0 _ = _
  rw [V_main_arg0]
  congr 1
  funext a
  apply Fin.ext
  match a with
  | ⟨0, _⟩ =>
    show win0_3.index t 0 * 2048 + 1 * r.val = t.val * 2048 + r.val
    rw [(row3 t).1]
    omega
  | ⟨1, _⟩ =>
    show win0_3.index t 1 * 512 + 1 * l.val = 2048 + l.val
    rw [(row3 t).2]
    omega

/-- Where window 4 stands at each point. -/
theorem row4 : ∀ t : Fin grid0.N, win0_4.index t 0 = 0 ∧ win0_4.index t 1 = 0 := by decide +kernel
/-- Window 4 is its whole array. -/
theorem iblk4 (t : Fin cfg0.N) (r : Fin 2048) (l : Fin 128) :
    (iblk m c 4 t : Vec Ideal S2048x128 .f32) (ix2 r l) = (V m c main_v15 : Vec Ideal S2048x128 .f32) (ix2 r l) := by
  unfold iblk
  rw [View.read_apply]
  show V m c main_v15 _ = _
  congr 1
  funext a
  apply Fin.ext
  match a with
  | ⟨0, _⟩ =>
    show win0_4.index t 0 * 2048 + 1 * r.val = r.val
    rw [(row4 t).1]
    omega
  | ⟨1, _⟩ =>
    show win0_4.index t 1 * 128 + 1 * l.val = l.val
    rw [(row4 t).2]
    omega

/-- Where window 5 stands at each point. -/
theorem row5 : ∀ t : Fin grid0.N, win0_5.index t 0 = 0 ∧ win0_5.index t 1 = 0 := by decide +kernel
/-- Window 5 is its whole array. -/
theorem iblk5 (t : Fin cfg0.N) (r : Fin 2048) (l : Fin 128) :
    (iblk m c 5 t : Vec Ideal S2048x128 .f32) (ix2 r l) = (V m c main_v17 : Vec Ideal S2048x128 .f32) (ix2 r l) := by
  unfold iblk
  rw [View.read_apply]
  show V m c main_v17 _ = _
  congr 1
  funext a
  apply Fin.ext
  match a with
  | ⟨0, _⟩ =>
    show win0_5.index t 0 * 2048 + 1 * r.val = r.val
    rw [(row5 t).1]
    omega
  | ⟨1, _⟩ =>
    show win0_5.index t 1 * 128 + 1 * l.val = l.val
    rw [(row5 t).2]
    omega

/-- Where window 6 stands at each point. -/
theorem row6 : ∀ t : Fin grid0.N, win0_6.index t 0 = 0 ∧ win0_6.index t 1 = 0 ∧ win0_6.index t 2 = 0 := by decide +kernel
/-- Window 6 is its whole array. -/
theorem iblk6 (t : Fin cfg0.N) (h : Fin 4) (r l : Fin 128) :
    (iblk m c 6 t : Vec Ideal S4x128x128 .f32) (ix3 h r l) = (V m c main_v42 : Vec Ideal S4x128x128 .f32) (ix3 h r l) := by
  unfold iblk
  rw [View.read_apply]
  show V m c main_v42 _ = _
  congr 1
  funext a
  apply Fin.ext
  match a with
  | ⟨0, _⟩ =>
    show win0_6.index t 0 * 4 + 1 * h.val = h.val
    rw [(row6 t).1]
    omega
  | ⟨1, _⟩ =>
    show win0_6.index t 1 * 128 + 1 * r.val = r.val
    rw [(row6 t).2.1]
    omega
  | ⟨2, _⟩ =>
    show win0_6.index t 2 * 128 + 1 * l.val = l.val
    rw [(row6 t).2.2]
    omega

/-- Where window 7 stands at each point. -/
theorem row7 : ∀ t : Fin grid0.N, win0_7.index t 0 = 0 ∧ win0_7.index t 1 = 0 ∧ win0_7.index t 2 = 0 := by decide +kernel
/-- Window 7 is its whole array. -/
theorem iblk7 (t : Fin cfg0.N) (h : Fin 4) (r l : Fin 128) :
    (iblk m c 7 t : Vec Ideal S4x128x128 .f32) (ix3 h r l) = (V m c main_v68 : Vec Ideal S4x128x128 .f32) (ix3 h r l) := by
  unfold iblk
  rw [View.read_apply]
  show V m c main_v68 _ = _
  congr 1
  funext a
  apply Fin.ext
  match a with
  | ⟨0, _⟩ =>
    show win0_7.index t 0 * 4 + 1 * h.val = h.val
    rw [(row7 t).1]
    omega
  | ⟨1, _⟩ =>
    show win0_7.index t 1 * 128 + 1 * r.val = r.val
    rw [(row7 t).2.1]
    omega
  | ⟨2, _⟩ =>
    show win0_7.index t 2 * 128 + 1 * l.val = l.val
    rw [(row7 t).2.2]
    omega

end Cert.Ret
-- ==== Proof.Spec.lean ====
/- The retention layer's mathematics for one head and one chunk, over extended reals: the chunk's outputs, the state's step,
   the normalised and gated row; and the kernel's tiles read as them. -/
module

public import proofs.«01_k».proof.Proof.Trip
public import Idealize.ShloMosaic.Lib.Pointwise
public import Idealize.ShloMosaic.PureOps.Ideal

@[expose] public section

set_option maxRecDepth 16384

noncomputable section

namespace Cert.Ret

open Idealize.ShloMosaic Idealize.ShloMosaic.TcCoe Idealize.SL.Sem
open Cert.KernelIdeal Cert.KernelIdeal.Gen

/-- A 128 by 128 matrix of extended reals. -/
abbrev Mat := Fin 128 → Fin 128 → EReal

/-- The chunk's output: the masked, decayed products of queries and keys on the values, and the decayed queries on the state. -/
def oE (q k v D : Mat) (xi : Fin 128 → EReal) (S : Mat) : Mat := fun n e =>
  ∑ x, (∑ y, q n y * k x y) * D n x * v x e + ∑ x, q n x * xi n * S x e

/-- The state after the chunk: the decayed state and the decayed keys on the values. -/
def sE (k v : Mat) (ze : Fin 128 → EReal) (g : EReal) (S : Mat) : Mat := fun d e =>
  g * S d e + ∑ x, k x d * ze x * v x e

/-- A row normalised over its 128 entries, times the gate's `g · sigmoid g`. -/
def ngE (o : Fin 128 → EReal) (g : EReal) (e : Fin 128) : EReal :=
  (o e - Ideal.div (∑ x, o x) (Ideal.ofBits FTy.f32 1124073472#32))
    * Ideal.rsqrt (Ideal.div (∑ x, (o x - Ideal.div (∑ y, o y) (Ideal.ofBits FTy.f32 1124073472#32))
        * (o x - Ideal.div (∑ y, o y) (Ideal.ofBits FTy.f32 1124073472#32))) (Ideal.ofBits FTy.f32 1124073472#32)
      + Ideal.ofBits FTy.f32 925353388#32) * (g * Ideal.logistic g)

/-- The kernel's rotation of a block's rows by the angle tables: the row times the cosines plus the row turned by 64 lanes times
    the signed sines. -/
def rot (x cs sn : Vec Ideal S128x128 .f32) : Mat := fun n d =>
  x (ix2 n d) * cs (ix2 n d) + x (ix2 n ⟨(d.val + 128 - 64) % 128, Nat.mod_lt _ (by decide)⟩) * sn (ix2 n d)

/-- The reference's scale of the keys. -/
def scl : EReal := Ideal.ofBits FTy.f32 1035273459#32

set_option maxHeartbeats 1000000 in
/-- The kernel's new state of one head. -/
theorem tileS_apply (cs sn k v : Vec Ideal S128x128 .f32) (ze : Vec Ideal S1x128x1 .f32) (gc : Vec Ideal S1x1x1 .f32)
    (st : Vec Ideal S1x1x128x128 .f32) (d e : Fin 128) :
    tileS cs sn k v ze gc st (ix4 0 0 d e)
      = sE (fun x y => rot k cs sn x y * scl) (fun x y => v (ix2 x y)) (fun x => ze (ix3 0 x 0)) (gc (ix3 0 0 0))
          (fun x y => st (ix4 0 0 x y)) d e := by
  unfold tileS k0_pay16 k0_pay15 k0_pay7 k0_pay8 k0_pay9 k0_pay11 k0_pay12 k0_pay4 k0_pay5
  pointwise
  rfl

set_option maxHeartbeats 1000000 in
/-- The kernel's output tile of one head. -/
theorem tileO_apply (cs sn q k v g : Vec Ideal S128x128 .f32) (xi : Vec Ideal S1x128x1 .f32) (dc : Vec Ideal S1x128x128 .f32)
    (st : Vec Ideal S1x1x128x128 .f32) (n e : Fin 128) :
    tileO cs sn q k v g xi dc st (ix2 n e)
      = ngE (oE (rot q cs sn) (fun x y => rot k cs sn x y * scl) (fun x y => v (ix2 x y)) (fun x y => dc (ix3 0 x y))
          (fun x => xi (ix3 0 x 0)) (fun x y => st (ix4 0 0 x y)) n) (g (ix2 n e)) e := by
  unfold tileO k0_pay14 k0_pay13 k0_pay6 k0_pay9 k0_pay10 k0_pay11 k0_pay12 k0_pay4 k0_pay5
  pointwise
  rfl

end Cert.Ret
-- ==== Proof.RefVal.lean ====
/- The reference's scan read at an index: every trip's new state and outputs, as the mathematics of `Spec` on the rotated
   queries and keys and the values of the chunk, and the normalised, gated result. -/
module

public import proofs.«01_k».proof.Proof.RefRun
public import proofs.«01_k».proof.Proof.Spec
public import Idealize.ShloMosaic.Lib.DynamicIndex
public import Idealize.ShloMosaic.Lib.Pipeline.Value

@[expose] public section

set_option maxRecDepth 16384

noncomputable section

namespace Cert.RetRef

open Idealize.ShloMosaic Idealize.ShloMosaic.TcCoe Idealize.SL.Sem
open Cert.ReferenceIdeal Cert.ReferenceIdeal.Gen Cert.ReferenceIdeal.Step
open Cert.Ret (Mat oE sE ngE)

/-- The rotated queries, at block `b`, chunk `c`, head `h`. -/
def qR (A : Vec Ideal S32768x3584 .f32) (b c : Fin 16) (h : Fin 4) : Mat := fun n d =>
  A_main_v39 (F := Ideal) A (ix4 b ⟨c.val * 128 + n.val, by omega⟩ h d)
/-- The rotated, scaled keys. -/
def kR (A : Vec Ideal S32768x3584 .f32) (b c : Fin 16) (h : Fin 4) : Mat := fun n d =>
  A_main_v74 (F := Ideal) A (ix4 b ⟨c.val * 128 + n.val, by omega⟩ h d)
/-- The values. -/
def vR (A : Vec Ideal S32768x3584 .f32) (b c : Fin 16) (h : Fin 4) : Mat := fun n d =>
  A_main_v5 (F := Ideal) A (ix4 b ⟨c.val * 128 + n.val, by omega⟩ h d)

/-- The scan carries the chunked queries, keys and values unchanged. -/
theorem carried (A : Vec Ideal S32768x3584 .f32) : ∀ n, (states A n).main_v130_0 = A_main_v124 A
    ∧ (states A n).main_v130_1 = A_main_v126 A ∧ (states A n).main_v130_2 = A_main_v128 A
  | 0 => ⟨rfl, rfl, rfl⟩
  | n + 1 => carried A n

/-- The trip's number, read back from its word. -/
theorem num_toInt (c : Fin 16) : (BitVec.ofNat 32 c.val).toInt = (c.val : Int) := by
  fin_cases c <;> decide

/-- Chunk `c` lies inside the chunked arrays. -/
theorem cut_fits (c : Fin 16) : S16x16x4x128x128.Slices ![c.val, 0, 0, 0, 0] S1x16x4x128x128 :=
  ⟨rfl, fun a => by fin_cases a <;> first | (show c.val + 1 ≤ 16; omega) | (show 0 + _ ≤ _; decide)⟩

/-- A trip's chunk of the queries. -/
theorem b5_apply (s : State Ideal) (c b : Fin 16) (h : Fin 4) (n e : Fin 128) :
    b5 c.val s (ix4 b h n e) = s.main_v130_0 (ix5 c b h n e) := by
  have e4 : b4 c.val s = extractStridedSlice S1x16x4x128x128 ![c.val, 0, 0, 0, 0] s.main_v130_0 (cut_fits c) :=
    Host.dynamicSlice_eq_extractStridedSlice _ _ _ _ _ _ (fun a => by fin_cases a <;> first | exact num_toInt c | rfl)
  unfold b5
  rw [e4]
  pointwise
  try rfl

/-- A trip's chunk of the keys. -/
theorem b11_apply (s : State Ideal) (c b : Fin 16) (h : Fin 4) (n e : Fin 128) :
    b11 c.val s (ix4 b h n e) = s.main_v130_1 (ix5 c b h n e) := by
  have e4 : b10 c.val s = extractStridedSlice S1x16x4x128x128 ![c.val, 0, 0, 0, 0] s.main_v130_1 (cut_fits c) :=
    Host.dynamicSlice_eq_extractStridedSlice _ _ _ _ _ _ (fun a => by fin_cases a <;> first | exact num_toInt c | rfl)
  unfold b11
  rw [e4]
  pointwise
  try rfl

/-- A trip's chunk of the values. -/
theorem b17_apply (s : State Ideal) (c b : Fin 16) (h : Fin 4) (n e : Fin 128) :
    b17 c.val s (ix4 b h n e) = s.main_v130_2 (ix5 c b h n e) := by
  have e4 : b16 c.val s = extractStridedSlice S1x16x4x128x128 ![c.val, 0, 0, 0, 0] s.main_v130_2 (cut_fits c) :=
    Host.dynamicSlice_eq_extractStridedSlice _ _ _ _ _ _ (fun a => by fin_cases a <;> first | exact num_toInt c | rfl)
  unfold b17
  rw [e4]
  pointwise
  try rfl

/-- The chunked array of the qs, entry by entry. -/
theorem qC_apply (A : Vec Ideal S32768x3584 .f32) (c b : Fin 16) (h : Fin 4) (n e : Fin 128) :
    A_main_v124 (F := Ideal) A (ix5 c b h n e) = qR A b c h n e := by
  unfold A_main_v124 A_main_v123 qR
  pointwise
  try rfl

/-- The chunked array of the ks, entry by entry. -/
theorem kC_apply (A : Vec Ideal S32768x3584 .f32) (c b : Fin 16) (h : Fin 4) (n e : Fin 128) :
    A_main_v126 (F := Ideal) A (ix5 c b h n e) = kR A b c h n e := by
  unfold A_main_v126 A_main_v125 kR
  pointwise
  try rfl

/-- The chunked array of the vs, entry by entry. -/
theorem vC_apply (A : Vec Ideal S32768x3584 .f32) (c b : Fin 16) (h : Fin 4) (n e : Fin 128) :
    A_main_v128 (F := Ideal) A (ix5 c b h n e) = vR A b c h n e := by
  unfold A_main_v128 A_main_v127 vR
  pointwise
  try rfl

set_option maxHeartbeats 1000000 in
/-- A trip's new state at an index. -/
theorem b35_apply (s : State Ideal) (j : ℕ) (b : Fin 16) (h : Fin 4) (d e : Fin 128) :
    b35 j s (ix4 b h d e) = sE (fun x y => b11 j s (ix4 b h x y)) (fun x y => b17 j s (ix4 b h x y))
      (fun x => K_main_v117 (F := Ideal) (ix3 h x 0)) (K_main_v121 (F := Ideal) (ix3 h 0 0))
      (fun x y => s.main_v130_8 (ix4 b h x y)) d e := by
  unfold b35 b34 b33 b32 b31 b30 b29 b28
  pointwise
  rfl

set_option maxHeartbeats 1000000 in
/-- A trip's outputs at an index. -/
theorem b27_apply (s : State Ideal) (j : ℕ) (b : Fin 16) (h : Fin 4) (n e : Fin 128) :
    b27 j s (ix4 b h n e) = oE (fun x y => b5 j s (ix4 b h x y)) (fun x y => b11 j s (ix4 b h x y))
      (fun x y => b17 j s (ix4 b h x y)) (fun x y => K_main_v99 (F := Ideal) (ix3 h x y))
      (fun x => K_main_v108 (F := Ideal) (ix3 h x 0)) (fun x y => s.main_v130_8 (ix4 b h x y)) n e := by
  unfold b27 b26 b25 b24 b23 b22 b21 b20 b19 b18
  pointwise
  rfl

/-- The state's entry at block `b`, head `h` after `n` trips. -/
def SR (A : Vec Ideal S32768x3584 .f32) (n : ℕ) (b : Fin 16) (h : Fin 4) : Mat := fun d e =>
  (states A n).main_v130_8 (ix4 b h d e)

/-- The state starts at zero. -/
theorem SR_zero (A : Vec Ideal S32768x3584 .f32) (b : Fin 16) (h : Fin 4) (d e : Fin 128) : SR A 0 b h d e = 0 := by
  show K_main_v122 (F := Ideal) (ix4 b h d e) = 0
  unfold K_main_v122 K_main_cst_12
  pointwise

/-- A trip's state from the one before. -/
theorem SR_succ (A : Vec Ideal S32768x3584 .f32) (c : Fin 16) (b : Fin 16) (h : Fin 4) :
    SR A (c.val + 1) b h = sE (kR A b c h) (vR A b c h) (fun x => K_main_v117 (F := Ideal) (ix3 h x 0))
      (K_main_v121 (F := Ideal) (ix3 h 0 0)) (SR A c.val b h) := by
  funext d e
  show b35 c.val (states A c.val) (ix4 b h d e) = _
  rw [b35_apply]
  simp only [b11_apply, b17_apply, (carried A c.val).2.1, (carried A c.val).2.2, kC_apply, vC_apply]
  rfl

/-- The outputs a trip leaves: chunk `j`'s are the trip's own, the others are kept. -/
theorem outs_apply (s : State Ideal) (j c b : Fin 16) (h : Fin 4) (n e : Fin 128) :
    b41 j.val s (ix5 c b h n e) = if c = j then b27 j.val s (ix4 b h n e) else s.main_v130_9 (ix5 c b h n e) := by
  have e41 : b41 j.val s = updateSlice s.main_v130_9 (b36 j.val s) ![j.val, 0, 0, 0, 0] (cut_fits j) :=
    Host.dynamicUpdateSlice_eq_updateSlice _ _ _ _ _ (fun a => by
      fin_cases a <;> first
        | (show (min (max (BitVec.ofNat 32 j.val).toInt 0) (15 : ℕ)).toNat = j.val; rw [num_toInt]; omega)
        | rfl) _
  rw [e41]
  unfold b36
  pointwise
  by_cases hc : c = j
  · subst hc
    simp
  · have hn : c.val ≠ j.val := fun h => hc (Fin.ext h)
    rw [if_neg hc]
    exact dif_neg (by omega)

/-- The outputs of chunk `c` after `n` trips, `c` below `n`. -/
theorem OR_apply (A : Vec Ideal S32768x3584 .f32) (c b : Fin 16) (h : Fin 4) (x e : Fin 128) : ∀ n, n ≤ 16 → c.val < n →
    (states A n).main_v130_9 (ix5 c b h x e)
      = oE (qR A b c h) (kR A b c h) (vR A b c h) (fun x y => K_main_v99 (F := Ideal) (ix3 h x y))
          (fun x => K_main_v108 (F := Ideal) (ix3 h x 0)) (SR A c.val b h) x e
  | 0, _, hc => absurd hc (by omega)
  | n + 1, hn, hc => by
    show b41 n (states A n) (ix5 c b h x e) = _
    have := outs_apply (states A n) ⟨n, by omega⟩ c b h x e
    simp only at this
    rw [this]
    split
    · rename_i hcn
      obtain rfl : c.val = n := congrArg Fin.val hcn
      rw [b27_apply]
      simp only [b5_apply, b11_apply, b17_apply, (carried A c.val).1, (carried A c.val).2.1, (carried A c.val).2.2, qC_apply, kC_apply, vC_apply]
      rfl
    · rename_i hcn
      exact OR_apply A c b h x e n (by omega) (by have : c.val ≠ n := fun h => hcn (Fin.ext h); omega)

set_option maxHeartbeats 1000000 in
/-- The result at an index, of the last state's outputs and the argument's gate columns. -/
theorem R_apply (s : State Ideal) (A : Vec Ideal S32768x3584 .f32) (b c : Fin 16) (h : Fin 4) (n e : Fin 128) :
    R_main_v155 s A (ix2 ⟨b.val * 2048 + (c.val * 128 + n.val), by omega⟩ ⟨h.val * 128 + e.val, by omega⟩)
      = ngE (fun x => s.main_v130_9 (ix5 c b h n x))
          (A (ix2 ⟨b.val * 2048 + (c.val * 128 + n.val), by omega⟩ ⟨2048 + (h.val * 128 + e.val), by omega⟩)) e := by
  have hX : ∀ x, shapeCast S16x2048x4x128 (transpose S16x16x128x4x128 [1, 0, 3, 2, 4] s.main_v130_9
      transposes_S16x16x4x128x128_S16x16x128x4x128_1_0_3_2_4) shapeCasts_S16x16x128x4x128_S16x2048x4x128
      (ix4 b ⟨c.val * 128 + n.val, by omega⟩ h x) = s.main_v130_9 (ix5 c b h n x) := fun x => by
    pointwise
  unfold R_main_v155
  generalize shapeCast S16x2048x4x128 (transpose S16x16x128x4x128 [1, 0, 3, 2, 4] s.main_v130_9
      transposes_S16x16x4x128x128_S16x16x128x4x128_1_0_3_2_4) shapeCasts_S16x16x128x4x128_S16x2048x4x128 = X at hX
  pointwise
  have er : (b.val * 2048 + (c.val * 128 + n.val)) % 2048 = c.val * 128 + n.val := by omega
  simp only [er, hX]
  rfl

end Cert.RetRef
-- ==== Proof.KerVal.lean ====
/- The retention launch's two arrays are the reference's two results. -/
module

public import proofs.«01_k».proof.Proof.Windows
public import proofs.«01_k».proof.Proof.RefVal
public import proofs.«01_k».proof.Proof.Spec

@[expose] public section

set_option maxRecDepth 65536

noncomputable section

namespace Cert.Ret

open Cert.KernelIdeal Cert.KernelIdeal.Gen Idealize.ShloMosaic Idealize.ShloMosaic.TcCoe Idealize.ShloMosaic.StableHlo Idealize.SL.Sem
open Cert.ReferenceIdeal.Step Cert.RetRef

variable (m : (ℓ : Loc nD τ sig) → Buf (Elt Ideal) ℓ) (c : Dev nD)

/-- A cell named twice. -/
theorem cell_eq (A : Vec Ideal S32768x3584 .f32) (t : Fin 16) {r r' : Fin 2048} {j j' : Fin 3584} (hr : r.val = r'.val) (hj : j.val = j'.val) :
    cell A t r j = cell A t r' j' := by
  rw [Fin.ext hr, Fin.ext hj]

/-- A head's rotated row: the first 64 lanes turned against the last 64 by the row's angles. -/
def rotR (A : Vec Ideal S32768x3584 .f32) (off : ℕ) (ho : off ≤ 3072) (b : Fin 16) (r : Fin 2048) (h : Fin 4) (d : Fin 128) : EReal :=
  if h_1 : d.val < 64 then
    cell A b r ⟨off + (h.val * 128 + d.val), by omega⟩ * K_main_v19 (F := Ideal) (ix2 r ⟨d.val, h_1⟩)
      - cell A b r ⟨off + (h.val * 128 + (64 + d.val)), by omega⟩ * K_main_v21 (F := Ideal) (ix2 r ⟨d.val, h_1⟩)
  else
    cell A b r ⟨off + (h.val * 128 + (64 + (d.val - 64))), by omega⟩ * K_main_v19 (F := Ideal) (ix2 r ⟨d.val - 64, by omega⟩)
      + cell A b r ⟨off + (h.val * 128 + (d.val - 64)), by omega⟩ * K_main_v21 (F := Ideal) (ix2 r ⟨d.val - 64, by omega⟩)

/-- The reference's rotated queries at an index. -/
theorem ref39 (A : Vec Ideal S32768x3584 .f32) (b : Fin 16) (r : Fin 2048) (h : Fin 4) (d : Fin 128) :
    A_main_v39 (F := Ideal) A (ix4 b r h d) = rotR A 512 (by omega) b r h d := by
  unfold A_main_v39 A_main_v31 A_main_v38 A_main_v27 A_main_v30 A_main_v34 A_main_v37 A_main_v23 A_main_v24 A_main_v1 A_main_v0 K_main_v26 K_main_v29 K_main_v33 K_main_v36 K_main_v25 K_main_v28 K_main_v32 K_main_v35 K_main_v20 K_main_v22
  pointwise
  rfl

/-- The reference's rotated, scaled keys at an index. -/
theorem ref74 (A : Vec Ideal S32768x3584 .f32) (b : Fin 16) (r : Fin 2048) (h : Fin 4) (d : Fin 128) :
    A_main_v74 (F := Ideal) A (ix4 b r h d) = rotR A 1024 (by omega) b r h d * scl := by
  unfold A_main_v74 A_main_v72 A_main_v64 A_main_v71 A_main_v60 A_main_v63 A_main_v67 A_main_v70 A_main_v56 A_main_v57 A_main_v3 A_main_v2 K_main_v59 K_main_v62 K_main_v66 K_main_v69 K_main_v58 K_main_v61 K_main_v65 K_main_v68 K_main_v53 K_main_v55 K_main_v73
  pointwise
  rfl

/-- The reference's values at an index. -/
theorem ref5 (A : Vec Ideal S32768x3584 .f32) (b : Fin 16) (r : Fin 2048) (h : Fin 4) (d : Fin 128) :
    A_main_v5 (F := Ideal) A (ix4 b r h d) = cell A b r ⟨1536 + (h.val * 128 + d.val), by omega⟩ := by
  unfold A_main_v5 A_main_v4
  pointwise
  rfl

/-- A block's chunk at an index, the block read as cells of the activations. -/
theorem blk_cell (A : Vec Ideal S32768x3584 .f32) (X : Vec Ideal S2048x512 .f32) (t : Fin 16) (off : ℕ) (ho : off ≤ 3072)
    (hX : ∀ r l, X (ix2 r l) = cell A t r ⟨off + l.val, by omega⟩) (k : Fin 16) (h : Fin 4) (n d : Fin 128) :
    blk X k.val h.val (ix2 n d) = cell A t ⟨k.val * 128 + n.val, by omega⟩ ⟨off + (h.val * 128 + d.val), by omega⟩ := by
  refine (hX _ _).trans (cell_eq A t ?_ ?_)
  · show (128 * k.val + n.val) % 2048 = k.val * 128 + n.val
    omega
  · show off + (128 * h.val + d.val) % 512 = off + (h.val * 128 + d.val)
    omega

/-- The kernel's cosines at a chunk's row. -/
theorem rows4 (t : Fin cfg0.N) (k : Fin 16) (n d : Fin 128) : rows (iblk m c 4 t : Vec Ideal S2048x128 .f32) k.val (ix2 n d)
    = K_main_v19 (F := Ideal) (ix2 ⟨k.val * 128 + n.val, by omega⟩ ⟨if d.val < 64 then d.val else d.val - 64, by split <;> omega⟩) := by
  refine (iblk4 m c t _ _).trans ((tab4 m c _ _).trans ?_)
  have e : (⟨(128 * k.val + n.val) % 2048, Nat.mod_lt _ (by decide)⟩ : Fin 2048) = ⟨k.val * 128 + n.val, by omega⟩ := Fin.ext (by
    show (128 * k.val + n.val) % 2048 = k.val * 128 + n.val
    omega)
  exact congrArg (fun r => K_main_v19 (F := Ideal) (ix2 r _)) e

/-- The kernel's signed sines at a chunk's row. -/
theorem rows5 (t : Fin cfg0.N) (k : Fin 16) (n d : Fin 128) : rows (iblk m c 5 t : Vec Ideal S2048x128 .f32) k.val (ix2 n d)
    = if h : d.val < 64 then - K_main_v21 (F := Ideal) (ix2 ⟨k.val * 128 + n.val, by omega⟩ ⟨d.val, h⟩)
      else K_main_v21 (F := Ideal) (ix2 ⟨k.val * 128 + n.val, by omega⟩ ⟨d.val - 64, by omega⟩) := by
  refine (iblk5 m c t _ _).trans ((tab5 m c _ _).trans ?_)
  have e : (⟨(128 * k.val + n.val) % 2048, Nat.mod_lt _ (by decide)⟩ : Fin 2048) = ⟨k.val * 128 + n.val, by omega⟩ := Fin.ext (by
    show (128 * k.val + n.val) % 2048 = k.val * 128 + n.val
    omega)
  exact congrArg (fun r : Fin 2048 => if h : d.val < 64 then - K_main_v21 (F := Ideal) (ix2 r ⟨d.val, h⟩)
      else K_main_v21 (F := Ideal) (ix2 r ⟨d.val - 64, by omega⟩)) e

/-- The kernel's rotation of a chunk is the reference's. -/
theorem rot_eq (A : Vec Ideal S32768x3584 .f32) (X : Vec Ideal S2048x512 .f32) (t : Fin cfg0.N) (off : ℕ) (ho : off ≤ 3072)
    (hX : ∀ r l, X (ix2 r l) = cell A t r ⟨off + l.val, by omega⟩) (k : Fin 16) (h : Fin 4) (n d : Fin 128) :
    rot (blk X k.val h.val) (rows (iblk m c 4 t) k.val) (rows (iblk m c 5 t) k.val) n d
      = rotR A off ho t ⟨k.val * 128 + n.val, by omega⟩ h d := by
  unfold rot rotR
  rw [blk_cell A X t off ho hX, blk_cell A X t off ho hX, rows4, rows5]
  by_cases hd : d.val < 64
  · simp only [hd, dif_pos, if_pos]
    rw [sub_eq_add_neg, mul_neg]
    congr 3
    exact cell_eq A t rfl (by show off + (h.val * 128 + (d.val + 128 - 64) % 128) = off + (h.val * 128 + (64 + d.val)); omega)
  · simp only [hd, dif_neg, if_neg, not_false_eq_true]
    congr 2
    · exact cell_eq A t rfl (by show off + (h.val * 128 + d.val) = off + (h.val * 128 + (64 + (d.val - 64))); omega)
    · exact cell_eq A t rfl (by show off + (h.val * 128 + (d.val + 128 - 64) % 128) = off + (h.val * 128 + (d.val - 64)); omega)

/-- The activations the launch reads. -/
abbrev act : Vec Ideal S32768x3584 .f32 := m (c.tc.loc main_arg0)

/-- The queries. -/
theorem q_eq (t : Fin cfg0.N) (k : Fin 16) (h : Fin 4) :
    rot (blk (iblk m c 0 t : Vec Ideal S2048x512 .f32) k.val h.val) (rows (iblk m c 4 t) k.val) (rows (iblk m c 5 t) k.val)
      = qR (act m c) t k h := by
  funext n d
  exact (rot_eq m c (act m c) _ t 512 (by omega) (iblk0 m c t) k h n d).trans (ref39 _ _ _ _ _).symm

/-- The keys. -/
theorem k_eq (t : Fin cfg0.N) (k : Fin 16) (h : Fin 4) :
    (fun x y => rot (blk (iblk m c 1 t : Vec Ideal S2048x512 .f32) k.val h.val) (rows (iblk m c 4 t) k.val) (rows (iblk m c 5 t) k.val) x y * scl)
      = kR (act m c) t k h := by
  funext n d
  rw [rot_eq m c (act m c) _ t 1024 (by omega) (iblk1 m c t) k h n d]
  exact (ref74 _ _ _ _ _).symm

/-- The values. -/
theorem v_eq (t : Fin cfg0.N) (k : Fin 16) (h : Fin 4) :
    (fun x y => blk (iblk m c 2 t : Vec Ideal S2048x512 .f32) k.val h.val (ix2 x y)) = vR (act m c) t k h := by
  funext n d
  exact (blk_cell (act m c) _ t 1536 (by omega) (iblk2 m c t) k h n d).trans (ref5 _ _ _ _ _).symm

/-- The kernel's state after `n` chunks is the reference's. -/
theorem st_eq (t : Fin cfg0.N) : ∀ n, n ≤ 16 → ∀ (h : Fin 4) (d e : Fin 128),
    stV (iblk m c 1 t : Vec Ideal S2048x512 .f32) (iblk m c 2 t) (iblk m c 4 t) (iblk m c 5 t) (iblk m c 7 t) n (ix4 0 h d e)
      = SR (act m c) n t h d e
  | 0, _, h, d, e => by
    refine Eq.trans ?_ (SR_zero (act m c) t h d e).symm
    show k0_pay1 (F := Ideal) (ix4 0 h d e) = 0
    unfold k0_pay1
    pointwise
  | n + 1, hn, h, d, e => by
    have ih := st_eq t n (by omega)
    refine Eq.trans ?_ (congrFun (congrFun (SR_succ (act m c) ⟨n, by omega⟩ t h) d) e).symm
    refine (tileS_apply _ _ _ _ _ _ _ d e).trans ?_
    have e1 := k_eq m c t ⟨n, by omega⟩ h
    have e2 := v_eq m c t ⟨n, by omega⟩ h
    simp only at e1 e2
    show sE (fun x y => rot (blk (iblk m c 1 t : Vec Ideal S2048x512 .f32) n h.val) (rows (iblk m c 4 t) n) (rows (iblk m c 5 t) n) x y * scl)
      (fun x y => blk (iblk m c 2 t : Vec Ideal S2048x512 .f32) n h.val (ix2 x y))
      (fun x => (iblk m c 7 t : Vec Ideal S4x128x128 .f32) (ix3 h x 1)) ((iblk m c 7 t : Vec Ideal S4x128x128 .f32) (ix3 h 0 2))
      (fun x y => stV (iblk m c 1 t : Vec Ideal S2048x512 .f32) (iblk m c 2 t) (iblk m c 4 t) (iblk m c 5 t) (iblk m c 7 t) n (ix4 0 h x y)) d e = _
    have e3 : (fun x => (iblk m c 7 t : Vec Ideal S4x128x128 .f32) (ix3 h x 1)) = fun x => K_main_v117 (F := Ideal) (ix3 h x 0) := by
      funext x
      exact (iblk7 m c t h x 1).trans (tab7_1 m c h x)
    have e4 : (iblk m c 7 t : Vec Ideal S4x128x128 .f32) (ix3 h 0 2) = K_main_v121 (F := Ideal) (ix3 h 0 0) :=
      (iblk7 m c t h 0 2).trans (tab7_2 m c h 0)
    have e5 : (fun x y => stV (iblk m c 1 t : Vec Ideal S2048x512 .f32) (iblk m c 2 t) (iblk m c 4 t) (iblk m c 5 t) (iblk m c 7 t) n (ix4 0 h x y))
        = SR (act m c) n t h := by
      funext x y
      exact ih h x y
    rw [e1, e2, e3, e4, e5]

/-- The kernel's output block is the reference's rows. -/
theorem ou_eq (t : Fin cfg0.N) (k : Fin 16) (h : Fin 4) (n e : Fin 128) :
    o8 m c t (ix2 ⟨k.val * 128 + n.val, by omega⟩ ⟨h.val * 128 + e.val, by omega⟩)
      = R_main_v155 (states (act m c) 16) (act m c)
          (ix2 ⟨t.val * 2048 + (k.val * 128 + n.val), by have := t.isLt; have : cfg0.N = 16 := by decide
                                                         omega⟩ ⟨h.val * 128 + e.val, by omega⟩) := by
  rw [R_apply (states (act m c) 16) (act m c) t k h n e]
  simp only [OR_apply (act m c) k t h _ _ 16 le_rfl k.isLt]
  have hk : (k.val * 128 + n.val) / 128 = k.val := by omega
  have hh : (h.val * 128 + e.val) / 128 = h.val := by omega
  have hn : (k.val * 128 + n.val) % 128 = n.val := by omega
  have he : (h.val * 128 + e.val) % 128 = e.val := by omega
  have e0 : o8 m c t (ix2 ⟨k.val * 128 + n.val, by omega⟩ ⟨h.val * 128 + e.val, by omega⟩)
      = tileO (rows (iblk m c 4 t) k.val) (rows (iblk m c 5 t) k.val) (blk (iblk m c 0 t) k.val h.val) (blk (iblk m c 1 t) k.val h.val)
          (blk (iblk m c 2 t) k.val h.val) (blk (iblk m c 3 t) k.val h.val) (colH (iblk m c 7 t) h 0) (matH (iblk m c 6 t) h)
          (stH (stV (iblk m c 1 t) (iblk m c 2 t) (iblk m c 4 t) (iblk m c 5 t) (iblk m c 7 t) k.val) h) (ix2 n e) := by
    have hf : ∀ (k' : ℕ) (h' : Fin 4) (n' e' : Fin 128), k' = k.val → h' = h → n' = n → e' = e →
        tileO (rows (iblk m c 4 t) k') (rows (iblk m c 5 t) k') (blk (iblk m c 0 t) k' h'.val) (blk (iblk m c 1 t) k' h'.val)
          (blk (iblk m c 2 t) k' h'.val) (blk (iblk m c 3 t) k' h'.val) (colH (iblk m c 7 t) h' 0) (matH (iblk m c 6 t) h')
          (stH (stV (iblk m c 1 t) (iblk m c 2 t) (iblk m c 4 t) (iblk m c 5 t) (iblk m c 7 t) k') h') (ix2 n' e')
        = tileO (rows (iblk m c 4 t) k.val) (rows (iblk m c 5 t) k.val) (blk (iblk m c 0 t) k.val h.val) (blk (iblk m c 1 t) k.val h.val)
          (blk (iblk m c 2 t) k.val h.val) (blk (iblk m c 3 t) k.val h.val) (colH (iblk m c 7 t) h 0) (matH (iblk m c 6 t) h)
          (stH (stV (iblk m c 1 t) (iblk m c 2 t) (iblk m c 4 t) (iblk m c 5 t) (iblk m c 7 t) k.val) h) (ix2 n e) := by
      rintro _ _ _ _ rfl rfl rfl rfl
      rfl
    exact hf _ _ _ _ hk (Fin.ext hh) (Fin.ext hn) (Fin.ext he)
  rw [e0, tileO_apply, q_eq, k_eq, v_eq, blk_cell (act m c) _ t 2048 (by omega) (iblk3 m c t)]
  have e1 : (fun x y => matH (iblk m c 6 t : Vec Ideal S4x128x128 .f32) h (ix3 0 x y)) = fun x y => K_main_v99 (F := Ideal) (ix3 h x y) := by
    funext x y
    exact (iblk6 m c t h x y).trans (congrFun (tab6 m c) _)
  have e2 : (fun x => colH (iblk m c 7 t : Vec Ideal S4x128x128 .f32) h 0 (ix3 0 x 0)) = fun x => K_main_v108 (F := Ideal) (ix3 h x 0) := by
    funext x
    exact (iblk7 m c t h x 0).trans (tab7_0 m c h x)
  have e3 : (fun x y => stH (stV (iblk m c 1 t : Vec Ideal S2048x512 .f32) (iblk m c 2 t) (iblk m c 4 t) (iblk m c 5 t) (iblk m c 7 t) k.val) h (ix4 0 0 x y))
      = SR (act m c) k.val t h := by
    funext x y
    exact st_eq m c t k.val (by omega) h x y
  rw [e1, e2, e3]
  rfl

/-! ## The two arrays -/

/-- Where the output window stands at each point. -/
theorem row8 : ∀ t : Fin grid0.N, win0_8.index t 0 = t.val ∧ win0_8.index t 1 = 0 := by decide +kernel
/-- Where the state window stands at each point. -/
theorem row9 : ∀ t : Fin grid0.N, win0_9.index t 0 = t.val ∧ win0_9.index t 1 = 0 ∧ win0_9.index t 2 = 0 ∧ win0_9.index t 3 = 0 := by
  decide +kernel
/-- The output window is never cut. -/
theorem size8 : ∀ t : Fin grid0.N, win0_8.xsize (grid0.coords t) 0 = 2048 ∧ win0_8.xsize (grid0.coords t) 1 = 512 := by decide +kernel
/-- The state window is never cut. -/
theorem size9 : ∀ t : Fin grid0.N, win0_9.xsize (grid0.coords t) 0 = 1 ∧ win0_9.xsize (grid0.coords t) 1 = 4
    ∧ win0_9.xsize (grid0.coords t) 2 = 128 ∧ win0_9.xsize (grid0.coords t) 3 = 128 := by decide +kernel

/-- The output array is the reference's first result. -/
theorem arr8 : (dats m 0 c).arrAt 8 cfg0.N = R_main_v155 (states (act m c) 16) (act m c) :=
  (dats m 0 c).arrAt_eq_of_cover 8 (R_main_v155 (states (act m c) 16) (act m c)) (fun t _ => by
    show (cfg0.win 8).cut (grid0.coords t) ((dats m 0 c).after 8 t) = _
    rw [aft8]
    funext j
    rw [View.read_apply]
    obtain ⟨r, l, rfl⟩ : ∃ (r : Fin 2048) (l : Fin 512), j = ix2 r l := ⟨j 0, j 1, by funext a; fin_cases a <;> rfl⟩
    have key := ou_eq m c t ⟨r.val / 128, by omega⟩ ⟨l.val / 128, by omega⟩ ⟨r.val % 128, by omega⟩ ⟨l.val % 128, by omega⟩
    have hr : r.val / 128 * 128 + r.val % 128 = r.val := by omega
    have hl : l.val / 128 * 128 + l.val % 128 = l.val := by omega
    simp only [hr, hl] at key
    refine Eq.trans ?_ (key.trans ?_)
    · rfl
    · refine congrArg (R_main_v155 (states (act m c) 16) (act m c)) ?_
      funext a
      apply Fin.ext
      match a with
      | ⟨0, _⟩ =>
        show t.val * 2048 + r.val = win0_8.index t 0 * 2048 + 1 * r.val
        rw [(row8 t).1]
        omega
      | ⟨1, _⟩ =>
        show l.val = win0_8.index t 1 * 512 + 1 * l.val
        rw [(row8 t).2]
        omega) fun i => by
    have h0 : (i 0 : Nat) < 32768 := (i 0).isLt
    have h1 : (i 1 : Nat) < 512 := (i 1).isLt
    refine ⟨⟨(i 0 : Nat) / 2048, by have : cfg0.N = 16 := by decide
                                    omega⟩, flush0_8 _, ?_⟩
    generalize ht : (⟨(i 0 : Nat) / 2048, _⟩ : Fin cfg0.N) = t
    have ht' : t.val = (i 0 : Nat) / 2048 := by rw [← ht]
    show i ∈ ((View.whole main_v69_0).slice (win0_8.rect t)).set
    rw [View.set_slice_whole, Rect.mem_set_unit]
    intro a
    match a with
    | ⟨0, _⟩ =>
      show win0_8.index t 0 * 2048 ≤ (i 0 : Nat) ∧ (i 0 : Nat) < win0_8.index t 0 * 2048 + win0_8.xsize (grid0.coords t) 0
      rw [(row8 t).1, (size8 t).1]
      omega
    | ⟨1, _⟩ =>
      show win0_8.index t 1 * 512 ≤ (i 1 : Nat) ∧ (i 1 : Nat) < win0_8.index t 1 * 512 + win0_8.xsize (grid0.coords t) 1
      rw [(row8 t).2, (size8 t).2]
      omega

/-- The state array is the reference's second result. -/
theorem arr9 : (dats m 0 c).arrAt 9 cfg0.N = (states (act m c) 16).main_v130_8 :=
  (dats m 0 c).arrAt_eq_of_cover 9 (states (act m c) 16).main_v130_8 (fun t _ => by
    show (cfg0.win 9).cut (grid0.coords t) ((dats m 0 c).after 9 t) = _
    rw [aft9]
    funext j
    rw [View.read_apply]
    obtain ⟨z, h, d, e, rfl⟩ : ∃ (z : Fin 1) (h : Fin 4) (d e : Fin 128), j = ix4 z h d e :=
      ⟨j 0, j 1, j 2, j 3, by funext a; fin_cases a <;> rfl⟩
    obtain rfl : z = 0 := Subsingleton.elim _ _
    refine Eq.trans ?_ ((st_eq m c t 16 le_rfl h d e).trans ?_)
    · rfl
    · refine congrArg (states (act m c) 16).main_v130_8 ?_
      funext a
      apply Fin.ext
      match a with
      | ⟨0, _⟩ =>
        show t.val = win0_9.index t 0 * 1 + 1 * 0
        rw [(row9 t).1]
        omega
      | ⟨1, _⟩ =>
        show h.val = win0_9.index t 1 * 4 + 1 * h.val
        rw [(row9 t).2.1]
        omega
      | ⟨2, _⟩ =>
        show d.val = win0_9.index t 2 * 128 + 1 * d.val
        rw [(row9 t).2.2.1]
        omega
      | ⟨3, _⟩ =>
        show e.val = win0_9.index t 3 * 128 + 1 * e.val
        rw [(row9 t).2.2.2]
        omega) fun i => by
    have h0 : (i 0 : Nat) < 16 := (i 0).isLt
    have h1 : (i 1 : Nat) < 4 := (i 1).isLt
    have h2 : (i 2 : Nat) < 128 := (i 2).isLt
    have h3 : (i 3 : Nat) < 128 := (i 3).isLt
    refine ⟨⟨(i 0 : Nat), by have : cfg0.N = 16 := by decide
                             omega⟩, flush0_9 _, ?_⟩
    generalize ht : (⟨(i 0 : Nat), _⟩ : Fin cfg0.N) = t
    have ht' : t.val = (i 0 : Nat) := by rw [← ht]
    show i ∈ ((View.whole main_v69_1).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + win0_9.xsize (grid0.coords t) 0
      rw [(row9 t).1, (size9 t).1]
      omega
    | ⟨1, _⟩ =>
      show win0_9.index t 1 * 4 ≤ (i 1 : Nat) ∧ (i 1 : Nat) < win0_9.index t 1 * 4 + win0_9.xsize (grid0.coords t) 1
      rw [(row9 t).2.1, (size9 t).2.1]
      omega
    | ⟨2, _⟩ =>
      show win0_9.index t 2 * 128 ≤ (i 2 : Nat) ∧ (i 2 : Nat) < win0_9.index t 2 * 128 + win0_9.xsize (grid0.coords t) 2
      rw [(row9 t).2.2.1, (size9 t).2.2.1]
      omega
    | ⟨3, _⟩ =>
      show win0_9.index t 3 * 128 ≤ (i 3 : Nat) ∧ (i 3 : Nat) < win0_9.index t 3 * 128 + win0_9.xsize (grid0.coords t) 3
      rw [(row9 t).2.2.2, (size9 t).2.2.2]
      omega

end Cert.Ret
-- ==== Proof.MoeText.lean ====
/- The two printed experts kernels have one text: their body tables and their main functions are equal. -/
module

public import proofs.«01_k».proof.Proof.Gen.Kernel2Ideal
public import proofs.«01_k».proof.Proof.Gen.Kernel2
public import proofs.«01_k».proof.Defs

@[expose] public section

set_option maxRecDepth 65536
set_option maxHeartbeats 8000000

noncomputable section

namespace Cert.MoeText

open Idealize.ShloMosaic Idealize.ShloMosaic.TcCoe Idealize.SL.Sem

/-- The kernels' body tables. -/
theorem bodies : Cert.Kernel2.defs₀ (F := Bits) = Cert.Kernel2Ideal.defs₀ (F := Bits) := by
  unfold Cert.Kernel2.defs₀ Cert.Kernel2Ideal.defs₀
  refine congrArg Defs.onTc ?_
  funext b x
  match b, x with
  | 0, (t, s) => rfl

/-- The body tables with the regions'. -/
theorem tables : Cert.Kernel2.defs (F := Bits) = Cert.Kernel2Ideal.defs (F := Bits) :=
  congrArg (Pipeline.defs (Cert.Kernel2Ideal.pcfgs (F := Bits))) bodies

/-- The main functions. -/
theorem mains : Cert.Kernel2.main (F := Bits) = Cert.Kernel2Ideal.main (F := Bits) := rfl

/-- The runs. -/
theorem runs : θ_run (Cert.Kernel2.defs (F := Bits)) (onTc (τ := Cert.Kernel2.τ) (Cert.Kernel2.main (F := Bits)))
    = θ_run (Cert.Kernel2Ideal.defs (F := Bits)) (onTc (τ := Cert.Kernel2Ideal.τ) (Cert.Kernel2Ideal.main (F := Bits))) := by
  rw [tables, mains]
  rfl

end Cert.MoeText
-- ==== Proof.MoeRun.lean ====
/- The experts kernel's run on the cores: what one tile's body leaves in the output block, the blocks its windows stage — two of
   them chosen by the prefetched expert numbers — and the launch. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.Pipeline.Kit
public import Idealize.ShloMosaic.Lib.StableHlo.RunRead
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the four casts run over the launch memory. -/
abbrev V (c : Dev nD) (b : Ref sig .tc) : Buf (Elt F) ((c : Thread nD τ).loc b) :=
  StableHlo.after (hostOps0 (F := F)) (fun b => m (c, b)) (Proc.devRef .tc b)

/-- No host operation allocates. -/
theorem hostOps0_fresh : (hostOps0 (F := F)).Forall fun op => op.fresh = ∅ := by
  simp only [List.Forall]; exact ⟨rfl, rfl, rfl, rfl⟩

set_option maxHeartbeats 800000 in
/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is as launched when the region is entered. -/
theorem V_main_arg0 (c : Dev nD) : V m c main_arg0 = m ((c : Thread nD τ).loc main_arg0) := by
  unfold V; after_reads_simp <;> rfl
/-- Argument 1 is as launched when the region is entered. -/
theorem V_main_arg1 (c : Dev nD) : V m c main_arg1 = m ((c : Thread nD τ).loc main_arg1) := by
  unfold V; after_reads_simp <;> rfl
/-- Argument 2 is as launched when the region is entered. -/
theorem V_main_arg2 (c : Dev nD) : V m c main_arg2 = m ((c : Thread nD τ).loc main_arg2) := by
  unfold V; after_reads_simp <;> rfl
/-- Argument 3 is as launched when the region is entered. -/
theorem V_main_arg3 (c : Dev nD) : V m c main_arg3 = m ((c : Thread nD τ).loc main_arg3) := by
  unfold V; after_reads_simp <;> rfl
/-- Argument 4 is as launched when the region is entered. -/
theorem V_main_arg4 (c : Dev nD) : V m c main_arg4 = m ((c : Thread nD τ).loc main_arg4) := by
  unfold V; after_reads_simp <;> rfl
/-- Argument 5 is as launched when the region is entered. -/
theorem V_main_arg5 (c : Dev nD) : V m c main_arg5 = m ((c : Thread nD τ).loc main_arg5) := by
  unfold V; after_reads_simp <;> rfl
/-- Argument 6 is as launched when the region is entered. -/
theorem V_main_arg6 (c : Dev nD) : V m c main_arg6 = m ((c : Thread nD τ).loc main_arg6) := by
  unfold V; after_reads_simp <;> rfl
/-- Argument 7 is as launched when the region is entered. -/
theorem V_main_arg7 (c : Dev nD) : V m c main_arg7 = m ((c : Thread nD τ).loc main_arg7) := by
  unfold V; after_reads_simp <;> rfl
/-- Cast 0 holds argument 1 in the narrower format. -/
theorem V_main_v0 (c : Dev nD) : V m c main_v0 = ((truncf .bf16 · Facts₀.bitsLt_bf16_f32) : main_arg1.ty.Contents (Elt F) → main_v0.ty.Contents (Elt F)) (m ((c : Thread nD τ).loc main_arg1)) := by
  unfold V; after_reads_simp <;> rfl
/-- Cast 1 holds argument 2 in the narrower format. -/
theorem V_main_v1 (c : Dev nD) : V m c main_v1 = ((truncf .bf16 · Facts₀.bitsLt_bf16_f32) : main_arg2.ty.Contents (Elt F) → main_v1.ty.Contents (Elt F)) (m ((c : Thread nD τ).loc main_arg2)) := by
  unfold V; after_reads_simp <;> rfl
/-- Cast 2 holds argument 3 in the narrower format. -/
theorem V_main_v2 (c : Dev nD) : V m c main_v2 = ((truncf .bf16 · Facts₀.bitsLt_bf16_f32) : main_arg3.ty.Contents (Elt F) → main_v2.ty.Contents (Elt F)) (m ((c : Thread nD τ).loc main_arg3)) := by
  unfold V; after_reads_simp <;> rfl
/-- Cast 3 holds argument 4 in the narrower format. -/
theorem V_main_v3 (c : Dev nD) : V m c main_v3 = ((truncf .bf16 · Facts₀.bitsLt_bf16_f32) : main_arg4.ty.Contents (Elt F) → main_v3.ty.Contents (Elt F)) (m ((c : Thread nD τ).loc main_arg4)) := by
  unfold V; after_reads_simp <;> rfl
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it. -/
abbrev Ok : Prop := ok0 (F := F) (tbl m)
/-- The tables' contents as ADMISSIBLE contents, and the pipeline at them: what the launch theorem runs
    -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S154 .i32 := Memref.whole main_arg5
abbrev htbM0_0 : tbM0_0.IsWhole := Memref.isWhole_whole _
abbrev tbM0_1 : Memref sig .tc .smem S154 .i32 := Memref.whole main_arg6
abbrev htbM0_1 : tbM0_1.IsWhole := Memref.isWhole_whole _
abbrev tbM0_2 : Memref sig .tc .smem S154 .i32 := Memref.whole main_arg7
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg5) (Memref.isWhole_whole _) (Memref.whole main_arg6) (Memref.isWhole_whole _) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x16 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x512x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x1024 .f32 := spec0_8.stage ((cfgM m hO).slots t 8)
abbrev hs0_8 (hO : Ok m) (t : Fin (cfgM m hO).N) : (ms0_8 m hO t).IsWhole := hstage0_8 (((cfgM m hO).slots t 8).cast nbuf0_8)

/-- Window 8 (result 0 (%0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- The tile of a point: its rows through the two named experts, or zeros where it holds no token. -/
def tileV (x0 : Vec F S256x1024 .f32) (x1 : Vec F S1024x16 .bf16) (x2 : Vec F S1x1024x512 .bf16) (x3 : Vec F S1x1024x512 .bf16) (x4 : Vec F S1x512x1024 .bf16)
    (x5 : Vec F S1x1024x512 .bf16) (x6 : Vec F S1x1024x512 .bf16) (x7 : Vec F S1x512x1024 .bf16) (w1 w2 v : Elt F .i32) : FVec F S256x1024 .f32 :=
  if k0_cond2 v = 1#1 then
    k0_pay2 (k0_pay3 x0) (k0_pay6 x0 x1 w2) (k0_pay7 x0 x1 w1 w2) (k0_pay8 x0 x2 x3 x4) (k0_pay9 x0 x1 w1 w2) x5 x6 x7
  else k0_pay1

/-- A table's word at a point. -/
def word (i : grid0.Coords) (xt : S154.Idx → Elt F .i32) : Elt F .i32 :=
  xt ((Rect.unit (s := S154) (k0_off1 i) S1.size (k0_off1_inb i)).emb (Shape.Idx.first (numel1_S1.symm ▸ Nat.one_pos)))

/-- A word is either zero or not: exactly one of the body's two conditions holds. -/
theorem cond_either (v : BitVec 32) : (k0_cond1 v = 1#1 ∧ ¬ k0_cond2 v = 1#1) ∨ (¬ k0_cond1 v = 1#1 ∧ k0_cond2 v = 1#1) := by
  unfold k0_cond1 k0_cond2
  by_cases h : v = 0#32
  · left; subst h; decide
  · right
    have e1 : Scalar.cmpi .eq v 0#32 = 0#1 := by show BitVec.ofBool (v == 0#32) = 0#1; rw [beq_false_of_ne h]; rfl
    have e2 : Scalar.cmpi .ne v 0#32 = 1#1 := by show BitVec.ofBool (v != 0#32) = 1#1; rw [bne, beq_false_of_ne h]; rfl
    constructor <;> (try simp only [e1, e2]) <;> decide

/-- A load of a whole staged block reads the block. -/
theorem full2 (v : View sig .tc .vmem S256x1024 .f32) (f : v.ty.Contents (Elt F)) :
    View.readAt (Elt F) v (Rect.unit (s := S256x1024) ![0, 0] ![256, 1024] inb_S256x1024_S256x1024_0_0).toLoadRect f = View.read (Elt F) v f := View.readAt_full v f _

/-- A load of a whole staged block reads the block. -/
theorem full2' (v : View sig .tc .vmem S1024x16 .bf16) (f : v.ty.Contents (Elt F)) :
    View.readAt (Elt F) v (Rect.unit (s := S1024x16) ![0, 0] ![1024, 16] inb_S1024x16_S1024x16_0_0).toLoadRect f = View.read (Elt F) v f := View.readAt_full v f _

/-- A load of a whole staged block reads the block. -/
theorem full3 (v : View sig .tc .vmem S1x1024x512 .bf16) (f : v.ty.Contents (Elt F)) :
    View.readAt (Elt F) v (Rect.unit (s := S1x1024x512) ![0, 0, 0] ![1, 1024, 512] inb_S1x1024x512_S1x1024x512_0_0_0).toLoadRect f = View.read (Elt F) v f := View.readAt_full v f _

/-- A load of a whole staged block reads the block. -/
theorem full3' (v : View sig .tc .vmem S1x512x1024 .bf16) (f : v.ty.Contents (Elt F)) :
    View.readAt (Elt F) v (Rect.unit (s := S1x512x1024) ![0, 0, 0] ![1, 512, 1024] inb_S1x512x1024_S1x512x1024_0_0_0).toLoadRect f = View.read (Elt F) v f := View.readAt_full v f _

set_option maxHeartbeats 2000000 in
/-- The body's run: the output block ends at the tile, everything else as it was. -/
theorem body_on (c : Dev nD) (i : grid0.Coords) (arg4 : Memref sig .tc .vmem S256x1024 .f32) (harg4 : arg4.IsWhole) (arg5 : Memref sig .tc .vmem S1024x16 .bf16) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S256x1024 .f32) (harg12 : arg12.IsWhole)
    (x0 : Vec F S256x1024 .f32) (x1 : Vec F S1024x16 .bf16) (x2 : Vec F S1x1024x512 .bf16) (x3 : Vec F S1x1024x512 .bf16) (x4 : Vec F S1x512x1024 .bf16) (x5 : Vec F S1x1024x512 .bf16) (x6 : Vec F S1x1024x512 .bf16) (x7 : Vec F S1x512x1024 .bf16) (xt0 : TbBuf0 (F := F) c tbM0_0) (xt1 : TbBuf0 (F := F) c tbM0_1) (xt2 : TbBuf0 (F := F) c tbM0_2) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (tileV x0 x1 x2 x3 x4 x5 x6 x7 (word i xt0) (word i xt1) (word i xt2)) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11 arg12 harg12) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr
    swap; · iexact H8
    ipureintro
    rw [show body_on.sl.r_1 c i xt2 = word i xt2 from rfl, show body_on.sl.r c i xt2 = word i xt2 from rfl]
    unfold tileV
    rcases cond_either (word i xt2) with ⟨h1, h2⟩ | ⟨h1, h2⟩
    · rw [dif_neg h2, dif_pos h1, if_neg h2]
      funext y
      exact View.read_writes_cons_unit_of_mem _ _ inb_S256x1024_S256x1024_0_0 _ _ _ y rfl (by intro a; fin_cases a <;> exact (Nat.zero_add _).symm)
    · rw [dif_pos h2, dif_neg h1, if_pos h2]
      funext y
      refine (View.read_writes_cons_unit_of_mem _ _ inb_S256x1024_S256x1024_0_0 _ _ _ y rfl (by intro a; fin_cases a <;> exact (Nat.zero_add _).symm)).trans ?_
      have e0 := (full2 arg4.view (harg4.unread x0)).trans (harg4.read_unread x0)
      have e1 := (full2' arg5.view (harg5.unread x1)).trans (harg5.read_unread x1)
      have e2 := (full3 arg6.view (harg6.unread x2)).trans (harg6.read_unread x2)
      have e3 := (full3 arg7.view (harg7.unread x3)).trans (harg7.read_unread x3)
      have e4 := (full3' arg8.view (harg8.unread x4)).trans (harg8.read_unread x4)
      have e8 := congr (congr (congrArg₂ k0_pay8 e0 e2) e3) e4
      rw [show body_on.sl.r_4 c arg4 harg4 x0 = k0_pay3 x0 from congrArg k0_pay3 e0,
        show body_on.sl.r_5 c i arg4 harg4 arg5 harg5 x0 x1 xt1 = k0_pay6 x0 x1 (word i xt1) from congrArg₂ (fun a b => k0_pay6 a b (word i xt1)) e0 e1,
        show body_on.sl.r_6 c i arg4 harg4 arg5 harg5 x0 x1 xt0 xt1 = k0_pay7 x0 x1 (word i xt0) (word i xt1) from congrArg₂ (fun a b => k0_pay7 a b (word i xt0) (word i xt1)) e0 e1,
        show body_on.sl.r_8 c i arg4 harg4 arg5 harg5 x0 x1 xt0 xt1 = k0_pay9 x0 x1 (word i xt0) (word i xt1) from congrArg₂ (fun a b => k0_pay9 a b (word i xt0) (word i xt1)) e0 e1,
        show body_on.sl.r_7 c arg4 harg4 arg6 harg6 arg7 harg7 arg8 harg8 x0 x2 x3 x4 = k0_pay8 x0 x2 x3 x4 from e8,
        full3, full3, full3', harg9.read_unread, harg10.read_unread, harg11.read_unread]
  isplitl [HT0]; · iexact HT0
  isplitl [HT1]; · iexact HT1
  iexact HT2

end Cert.Moe

end
-- ==== Proof.MoeFrame.lean ====
/- The experts kernel's launch: the blocks the body is handed, what it leaves, and what the result array holds at the end. -/
module

public import proofs.«01_k».proof.Proof.MoeRun
public import proofs.«01_k».proof.Proof.Gen.Kernel2Ideal.Skeleton
public import Idealize.ShloMosaic.Lib.Pipeline.FrameBody
public import Idealize.ShloMosaic.Lib.Pipeline.Value
public import Idealize.ShloMosaic.Lib.Pipeline.Kit
public import Idealize.ShloMosaic.Lib.StableHlo.RunRead
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output block at point `t`. -/
def outsAt0 (hO : Ok m) (c : Dev nD) (t : Fin (cfgM m hO).N) : Vec F S256x1024 .f32 :=
  tileV (iblk m hO c 0 t) (iblk m hO c 1 t) (iblk m hO c 2 t) (iblk m hO c 3 t) (iblk m hO c 4 t) (iblk m hO c 5 t) (iblk m hO c 6 t) (iblk m hO c 7 t)
    (word (grid0.coords t) (tbl m 0)) (word (grid0.coords t) (tbl m 1)) (word (grid0.coords t) (tbl m 2))

/-! ## The pipeline's proof data -/

/-- The proof data: each input's buffer stays at its block, the output's is left at the tile. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t)
  Φ _ := iprop(Pipeline.ΦA spec0 c ∗ Pipeline.ΦT pre0 (tbl m) c)
  q w := Pipeline.shareOf spec0 w
  owed _ := 0

/-- The arrays are as the region finds them. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` , -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_on c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) Set.univ _ )
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT0]; · iexact HT0
  isplitl [HT1]; · iexact HT1
  isplitl [HT2]; · iexact HT2
  iintro ⟨H0, H1, H2, H3, H4, H5, H6, H7, H8, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The block of an output that is written back at every point: what the body leaves. -/
theorem written {M : Type} [URA M] (b f : Bool) (P Q : sProp M) :
    f = true → (P ⊢ (match b with | true => (match f with | false => Q | true => P) | false => P)) := by
  intro h; subst h; cases b <;> exact .rfl

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl (sep_mono .rfl (sep_mono .rfl (sep_mono .rfl (sep_mono .rfl (sep_mono .rfl ?_)))))))))
  exact written (M := 𝕄) ((cfgM m hO).idle 8 ((cfgM m hO).grid.coords t)) (((cfgM m hO).win 8).flush t) _ _ (flush0_8 (adm m hO) t)

/-! ## The run and the frame -/

set_option backward.isDefEq.respectTransparency.types false in
/-- The launch: every array of the pipeline ends at what the proof data says, and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The launch, without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

set_option maxHeartbeats 800000 in
/-- The run, for any values: the result array at what the proof data says, the arguments unchanged, every counter zero. -/
theorem run_all (hO : Ok m) : θ_run defs (onTc (τ := τ) (main (F := F))) ⟨m, fun _ => 0, ρ⟩ (fun r => (∀ c : Dev nD,
      r.2.mem ((c : Thread nD τ).loc main_v4) = (dats m hO 0 c).arrAt 8 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun r h => ⟨fun c => ⟨(h.1 c).1 8,
    ((h.1 c).1 0).trans (((dats m hO 0 c).arrAt_in 0 rfl _).trans ((A_eq m hO c 0).trans (V_main_arg0 m c))),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c),
    ((h.1 c).2 main_arg5 (by decide : main_arg5 ∈ Pipeline.restRefs sig spec0)).trans (V_main_arg5 m c),
    ((h.1 c).2 main_arg6 (by decide : main_arg6 ∈ Pipeline.restRefs sig spec0)).trans (V_main_arg6 m c),
    ((h.1 c).2 main_arg7 (by decide : main_arg7 ∈ Pipeline.restRefs sig spec0)).trans (V_main_arg7 m c)⟩, h.2⟩) (run_main_quiescent m ρ hO)

end Cert.Moe

end
-- ==== Proof.MoePre.lean ====
/- What the experts kernel's precondition gives: every tile's two expert numbers name an expert, so every block the kernel reads
   lies inside its array. -/
module

public import proofs.«01_k».proof.Proof.MoeFrame
public import proofs.«01_k».proof.Proof.Gen.Pre_experts_named
public import Idealize.ShloMosaic.Lib.Affine

@[expose] public section

set_option maxRecDepth 65536

noncomputable section

namespace Cert.Moe

open Cert.Kernel2Ideal Cert.Kernel2Ideal.Gen Idealize.ShloMosaic Idealize.ShloMosaic.TcCoe Idealize.SL.Sem

variable {F : FTy → Type} [FloatOps F]

/-- A word that lies between zero and sixteen as a signed number is below sixteen as a number. -/
theorem toNat_lt (a : BitVec 32) (h0 : BitVec.sle 0#32 a = true) (h1 : BitVec.slt a 16#32 = true) : a.toNat < 16 := by
  have e0 : (0#32).toInt ≤ a.toInt := by simpa [BitVec.sle] using h0
  have e1 : a.toInt < (16#32).toInt := by simpa [BitVec.slt] using h1
  have z : (0#32 : BitVec 32).toInt = 0 := by decide
  have s : (16#32 : BitVec 32).toInt = 16 := by decide
  rw [z] at e0; rw [s] at e1
  rw [BitVec.toInt_eq_toNat_cond] at e0 e1
  split at e0 <;> omega

/-- Four truth values whose words' conjunction is one are all true. -/
theorem four : ∀ p q r s : Bool, (BitVec.ofBool p &&& BitVec.ofBool q) &&& BitVec.ofBool r &&& BitVec.ofBool s = 1#1 →
    p = true ∧ q = true ∧ r = true ∧ s = true := by decide

/-- The precondition's words are below sixteen. -/
theorem named (a0 a1 a2 a3 a4 a5 a6 a7) (h : Cert.Pre_experts_named.fn (F := F) a0 a1 a2 a3 a4 a5 a6 a7 = fun _ => 1#1) (j : S154.Idx) :
    (a5 j : BitVec 32).toNat < 16 ∧ (a6 j : BitVec 32).toNat < 16 := by
  have e : (BitVec.ofBool (BitVec.sle 0#32 (a5 j)) &&& BitVec.ofBool (BitVec.slt (a5 j) 16#32)) &&& BitVec.ofBool (BitVec.sle 0#32 (a6 j))
      &&& BitVec.ofBool (BitVec.slt (a6 j) 16#32) = 1#1 := congrFun h j
  obtain ⟨p, q, r, s⟩ := four _ _ _ _ e
  exact ⟨toNat_lt _ p q, toNat_lt _ r s⟩

variable (m : (ℓ : Loc nD τ sig) → Buf (Elt F) ℓ)

/-- The tables' words below sixteen, every block lies inside its array. -/
theorem ok_of (h0 : ∀ j, (tbl m 0 j : BitVec 32).toNat < 16) (h1 : ∀ j, (tbl m 1 j : BitVec 32).toNat < 16) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have e0 := h0 ((Rect.unit (s := S154) (k0_off1 i) S1.size (k0_off1_inb i)).emb (Shape.Idx.first (numel1_S1.symm ▸ Nat.one_pos)))
    have e1 := h1 ((Rect.unit (s := S154) (k0_off1 i) S1.size (k0_off1_inb i)).emb (Shape.Idx.first (numel1_S1.symm ▸ Nat.one_pos)))
  · match a with
    | ⟨0, _⟩ => exact (Nat.mul_one _).le.trans e0
    | ⟨1, _⟩ => show (0 + 1) * 1024 ≤ 1024; decide
    | ⟨2, _⟩ => show (0 + 1) * 512 ≤ 512; decide
  · match a with
    | ⟨0, _⟩ => exact (Nat.mul_one _).le.trans e0
    | ⟨1, _⟩ => show (0 + 1) * 1024 ≤ 1024; decide
    | ⟨2, _⟩ => show (0 + 1) * 512 ≤ 512; decide
  · match a with
    | ⟨0, _⟩ => exact (Nat.mul_one _).le.trans e0
    | ⟨1, _⟩ => show (0 + 1) * 512 ≤ 512; decide
    | ⟨2, _⟩ => show (0 + 1) * 1024 ≤ 1024; decide
  · match a with
    | ⟨0, _⟩ => exact (Nat.mul_one _).le.trans e1
    | ⟨1, _⟩ => show (0 + 1) * 1024 ≤ 1024; decide
    | ⟨2, _⟩ => show (0 + 1) * 512 ≤ 512; decide
  · match a with
    | ⟨0, _⟩ => exact (Nat.mul_one _).le.trans e1
    | ⟨1, _⟩ => show (0 + 1) * 1024 ≤ 1024; decide
    | ⟨2, _⟩ => show (0 + 1) * 512 ≤ 512; decide
  · match a with
    | ⟨0, _⟩ => exact (Nat.mul_one _).le.trans e1
    | ⟨1, _⟩ => show (0 + 1) * 512 ≤ 512; decide
    | ⟨2, _⟩ => show (0 + 1) * 1024 ≤ 1024; decide

end Cert.Moe

end
-- ==== Proof.MoeSpec.lean ====
/- A row through two of sixteen experts, as mathematics: the scores, the gated hidden layer, the shares, and the sum over all
   sixteen experts that keeps the two named ones. -/
module

public import Idealize.ShloMosaic.PureOps.Ideal

@[expose] public section

noncomputable section

namespace Cert.Moe

open Idealize.ShloMosaic

/-- An expert's score of a row. -/
def score (x : Fin 1024 → EReal) (R : Fin 1024 → Fin 16 → EReal) (e : Fin 16) : EReal := Ideal.logistic (∑ k, x k * R k e)

/-- A row through a matrix. -/
def hid (x : Fin 1024 → EReal) (G : Fin 1024 → Fin 512 → EReal) (f : Fin 512) : EReal := ∑ k, x k * G k f

/-- A row through one expert. -/
def mlp (x : Fin 1024 → EReal) (G U : Fin 1024 → Fin 512 → EReal) (D : Fin 512 → Fin 1024 → EReal) (j : Fin 1024) : EReal :=
  ∑ f, hid x G f * Ideal.logistic (hid x G f) * hid x U f * D f j

/-- Two experts' outputs, shared by their scores. -/
def mix (s t A B : EReal) : EReal := Ideal.div s (s + t) * A + Ideal.div t (s + t) * B

/-- Twice a number times another is the product taken twice. -/
theorem twice (a M : EReal) : (a + a) * M = a * M + a * M := by
  rcases le_total 0 M with h | h
  · induction a using EReal.rec with
    | bot =>
      rcases h.eq_or_lt with rfl | h
      · simp
      · rw [EReal.bot_add, EReal.bot_mul_of_pos h, EReal.bot_add]
    | top => exact EReal.right_distrib_of_nonneg le_top le_top
    | coe r =>
      rcases le_total 0 r with hr | hr
      · exact EReal.right_distrib_of_nonneg (EReal.coe_nonneg.2 hr) (EReal.coe_nonneg.2 hr)
      · have := EReal.right_distrib_of_nonneg (a := ((-r : ℝ) : EReal)) (b := ((-r : ℝ) : EReal)) (c := -M)
          (EReal.coe_nonneg.2 (neg_nonneg.2 hr)) (EReal.coe_nonneg.2 (neg_nonneg.2 hr))
        rw [← EReal.coe_add, EReal.coe_neg, neg_mul_neg, ← neg_add, EReal.coe_neg, neg_mul_neg, EReal.coe_add] at this
        exact this
  · induction a using EReal.rec with
    | bot =>
      rcases h.eq_or_lt with rfl | h
      · simp
      · rw [EReal.bot_add, EReal.bot_mul_of_neg h]; rfl
    | top => exact EReal.right_distrib_of_nonneg le_top le_top
    | coe r =>
      rcases le_total 0 r with hr | hr
      · exact EReal.right_distrib_of_nonneg (EReal.coe_nonneg.2 hr) (EReal.coe_nonneg.2 hr)
      · have := EReal.right_distrib_of_nonneg (a := ((-r : ℝ) : EReal)) (b := ((-r : ℝ) : EReal)) (c := -M)
          (EReal.coe_nonneg.2 (neg_nonneg.2 hr)) (EReal.coe_nonneg.2 (neg_nonneg.2 hr))
        rw [← EReal.coe_add, EReal.coe_neg, neg_mul_neg, ← neg_add, EReal.coe_neg, neg_mul_neg, EReal.coe_add] at this
        exact this

/-- The sum over all sixteen experts, each weighed by what the two named ones' shares give it, keeps the two. -/
theorem two_experts (p q : Fin 16) (a b : EReal) (hab : p = q → a = b) (M : Fin 16 → EReal) :
    ∑ e, ((if p = e then 1 else 0) * a + (if q = e then 1 else 0) * b) * M e = a * M p + b * M q := by
  have h : ∀ e, ((if p = e then (1 : EReal) else 0) * a + (if q = e then 1 else 0) * b) * M e
      = (if p = e then a * M e else 0) + (if q = e then b * M e else 0) := by
    intro e
    by_cases hp : p = e
    · by_cases hq : q = e
      · have := hab (hp.trans hq.symm)
        subst this
        simp only [hp, hq, if_true, one_mul]
        exact twice a (M e)
      · simp only [hp, hq, if_true, if_false, one_mul, zero_mul, add_zero]
    · by_cases hq : q = e
      · simp only [hp, hq, if_true, if_false, one_mul, zero_mul, zero_add]
      · simp only [hp, hq, if_false, zero_mul, zero_add]
  simp only [h, Finset.sum_add_distrib, Finset.sum_ite_eq, Finset.mem_univ, if_true]

/-- The unit that one word equals an expert's number, as a number. -/
theorem unit_eq (w : BitVec 32) (hw : w.toNat < 16) (e : Fin 16) :
    FloatOps.uitofp (F := Ideal) FTy.f32 (IntOp.cmpi CmpIPredicate.eq w (BitVec.ofNat 32 e.val)) = if (⟨w.toNat, hw⟩ : Fin 16) = e then 1 else 0 := by
  have hn : (BitVec.ofNat 32 e.val).toNat = e.val := by
    rw [BitVec.toNat_ofNat]; exact Nat.mod_eq_of_lt (by have := e.isLt; omega)
  show (((BitVec.ofBool (w == BitVec.ofNat 32 e.val)).toNat : ℝ) : EReal) = _
  by_cases h : (⟨w.toNat, hw⟩ : Fin 16) = e
  · have hwe : w = BitVec.ofNat 32 e.val := BitVec.eq_of_toNat_eq (by rw [hn]; exact congrArg Fin.val h)
    rw [if_pos h, beq_iff_eq.2 hwe]
    simp
  · have hwe : w ≠ BitVec.ofNat 32 e.val := fun hh => h (Fin.ext (by rw [← hn, ← hh]))
    rw [if_neg h, beq_false_of_ne hwe]
    simp

/-- The sum of sixteen numbers, all but the named one replaced by zero. -/
theorem pick (w : BitVec 32) (hw : w.toNat < 16) (f : Fin 16 → EReal) :
    ∑ x : Fin 16, Scalar.select (IntOp.cmpi CmpIPredicate.eq (BitVec.ofNat 32 x.val) w) (f x) 0 = f ⟨w.toNat, hw⟩ := by
  have h : ∀ x : Fin 16, Scalar.select (IntOp.cmpi CmpIPredicate.eq (BitVec.ofNat 32 x.val) w) (f x) 0
      = if (⟨w.toNat, hw⟩ : Fin 16) = x then f x else 0 := by
    intro x
    have hn : (BitVec.ofNat 32 x.val).toNat = x.val := by
      rw [BitVec.toNat_ofNat]; exact Nat.mod_eq_of_lt (by have := x.isLt; omega)
    show (if BitVec.ofBool (BitVec.ofNat 32 x.val == w) = 1#1 then f x else 0) = _
    by_cases h : (⟨w.toNat, hw⟩ : Fin 16) = x
    · have hwe : BitVec.ofNat 32 x.val = w := BitVec.eq_of_toNat_eq (by rw [hn]; exact (congrArg Fin.val h).symm)
      rw [if_pos h, beq_iff_eq.2 hwe]
      rfl
    · have hwe : BitVec.ofNat 32 x.val ≠ w := fun hh => h (Fin.ext (by rw [← hn, hh]))
      rw [if_neg h, beq_false_of_ne hwe]
      rfl
  simp only [h, Finset.sum_ite_eq, Finset.mem_univ, if_true]

end Cert.Moe

end
-- ==== Proof.MoeKer.lean ====
/- The experts kernel's array read at an index: its tile's payload, its windows' blocks, and the array they make. -/
module

public import proofs.«01_k».proof.Proof.MoePre
public import proofs.«01_k».proof.Proof.MoeSpec
public import Idealize.ShloMosaic.Lib.Pointwise
public import Idealize.ShloMosaic.PureOps.Ideal

@[expose] public section

set_option maxRecDepth 65536

noncomputable section

namespace Cert.Moe

open Cert.Kernel2Ideal Cert.Kernel2Ideal.Gen Idealize.ShloMosaic Idealize.ShloMosaic.TcCoe Idealize.ShloMosaic.StableHlo Idealize.SL.Sem

/-! ## The tile -/

/-- The scores at an index. -/
theorem pay4_apply (x0 : Vec Ideal S256x1024 .f32) (x1 : Vec Ideal S1024x16 .bf16) (r : Fin 256) (e : Fin 16) :
    k0_pay4 x0 x1 (ix2 r e) = score (fun k => x0 (ix2 r k)) (fun k e => x1 (ix2 k e)) e := by
  unfold k0_pay4 k0_pay3
  pointwise
  rfl

/-- The first expert's score. -/
theorem pay5_apply (x0 : Vec Ideal S256x1024 .f32) (x1 : Vec Ideal S1024x16 .bf16) (w : BitVec 32) (hw : w.toNat < 16) (r : Fin 256) :
    k0_pay5 x0 x1 w (ix2 r 0) = score (fun k => x0 (ix2 r k)) (fun k e => x1 (ix2 k e)) ⟨w.toNat, hw⟩ := by
  unfold k0_pay5
  pointwise
  exact (pick w hw fun e => k0_pay4 x0 x1 (ix2 r e)).trans (pay4_apply x0 x1 r _)

/-- The second expert's score. -/
theorem pay6_apply (x0 : Vec Ideal S256x1024 .f32) (x1 : Vec Ideal S1024x16 .bf16) (w : BitVec 32) (hw : w.toNat < 16) (r : Fin 256) :
    k0_pay6 x0 x1 w (ix2 r 0) = score (fun k => x0 (ix2 r k)) (fun k e => x1 (ix2 k e)) ⟨w.toNat, hw⟩ := by
  unfold k0_pay6
  pointwise
  exact (pick w hw fun e => k0_pay4 x0 x1 (ix2 r e)).trans (pay4_apply x0 x1 r _)

/-- The first expert's output. -/
theorem pay8_apply (x0 : Vec Ideal S256x1024 .f32) (x2 x3 : Vec Ideal S1x1024x512 .bf16) (x4 : Vec Ideal S1x512x1024 .bf16) (r : Fin 256) (j : Fin 1024) :
    k0_pay8 x0 x2 x3 x4 (ix2 r j)
      = mlp (fun k => x0 (ix2 r k)) (fun k f => x2 (ix3 0 k f)) (fun k f => x3 (ix3 0 k f)) (fun f j => x4 (ix3 0 f j)) j := by
  unfold k0_pay8 k0_pay3
  pointwise
  rfl

/-- The first expert's share. -/
theorem pay9_apply (x0 : Vec Ideal S256x1024 .f32) (x1 : Vec Ideal S1024x16 .bf16) (w1 w2 : BitVec 32) (r : Fin 256) (j : Fin 1024) :
    k0_pay9 x0 x1 w1 w2 (ix2 r j) = Ideal.div (k0_pay5 x0 x1 w1 (ix2 r 0)) (k0_pay5 x0 x1 w1 (ix2 r 0) + k0_pay6 x0 x1 w2 (ix2 r 0)) := by
  unfold k0_pay9 k0_pay7
  pointwise

/-- The sum of the two shared outputs. -/
theorem pay2_apply (x0 : Vec Ideal S256x1024 .f32) (v32 v33 v47 v48 v51 v54 v61) (r : Fin 256) (j : Fin 1024) :
    k0_pay2 (F := Ideal) (k0_pay3 x0) v32 v33 v47 v48 v51 v54 v61 (ix2 r j)
      = v48 (ix2 r j) * v47 (ix2 r j) + Ideal.div (v32 (ix2 r 0)) (v33 (ix2 r 0))
        * mlp (fun k => x0 (ix2 r k)) (fun k f => v51 (ix3 0 k f)) (fun k f => v54 (ix3 0 k f)) (fun f j => v61 (ix3 0 f j)) j := by
  unfold k0_pay2 k0_pay3
  pointwise
  rfl

/-- A tile at an index. -/
theorem tileV_apply (x0 : Vec Ideal S256x1024 .f32) (x1 : Vec Ideal S1024x16 .bf16) (x2 x3 : Vec Ideal S1x1024x512 .bf16) (x4 : Vec Ideal S1x512x1024 .bf16)
    (x5 x6 : Vec Ideal S1x1024x512 .bf16) (x7 : Vec Ideal S1x512x1024 .bf16) (w1 w2 v : BitVec 32) (h1 : w1.toNat < 16) (h2 : w2.toNat < 16)
    (r : Fin 256) (j : Fin 1024) :
    tileV x0 x1 x2 x3 x4 x5 x6 x7 w1 w2 v (ix2 r j) = if v = 0#32 then 0 else
      mix (score (fun k => x0 (ix2 r k)) (fun k e => x1 (ix2 k e)) ⟨w1.toNat, h1⟩) (score (fun k => x0 (ix2 r k)) (fun k e => x1 (ix2 k e)) ⟨w2.toNat, h2⟩)
        (mlp (fun k => x0 (ix2 r k)) (fun k f => x2 (ix3 0 k f)) (fun k f => x3 (ix3 0 k f)) (fun f j => x4 (ix3 0 f j)) j)
        (mlp (fun k => x0 (ix2 r k)) (fun k f => x5 (ix3 0 k f)) (fun k f => x6 (ix3 0 k f)) (fun f j => x7 (ix3 0 f j)) j) := by
  unfold tileV
  by_cases h : v = 0#32
  · rw [if_pos h, if_neg (by subst h; decide)]
    unfold k0_pay1
    pointwise
  · have hc : k0_cond2 v = 1#1 := by
      have e2 : Scalar.cmpi .ne v 0#32 = 1#1 := by show BitVec.ofBool (v != 0#32) = 1#1; rw [bne, beq_false_of_ne h]; rfl
      unfold k0_cond2
      simp only [e2]
      decide
    have e7 : k0_pay7 x0 x1 w1 w2 (ix2 r 0) = k0_pay5 x0 x1 w1 (ix2 r 0) + k0_pay6 x0 x1 w2 (ix2 r 0) := by
      unfold k0_pay7
      pointwise
    rw [if_neg h, if_pos hc, pay2_apply, pay9_apply, pay8_apply, e7, pay5_apply _ _ _ h1, pay6_apply _ _ _ h2]
    rfl

/-! ## The blocks -/

variable (m : (ℓ : Loc nD τ sig) → Buf (Elt Ideal) ℓ) (hO : Ok m) (c : Dev nD)

/-- Where the row windows stand. -/
theorem at0 : ∀ t : Fin grid0.N, cc0_transform_0 (grid0.coords t) 0 = t.val ∧ cc0_transform_0 (grid0.coords t) 1 = 0 := by decide +kernel
/-- Where the router's window stands. -/
theorem at1 : ∀ t : Fin grid0.N, cc0_transform_1 (grid0.coords t) 0 = 0 ∧ cc0_transform_1 (grid0.coords t) 1 = 0 := by decide +kernel
/-- Where the output window stands. -/
theorem at8 : ∀ t : Fin grid0.N, cc0_transform_8 (grid0.coords t) 0 = t.val ∧ cc0_transform_8 (grid0.coords t) 1 = 0 := by decide +kernel
/-- Which word of a table a point reads. -/
theorem at_word : ∀ t : Fin grid0.N, k0_off1 (grid0.coords t) 0 = t.val := by decide +kernel

/-- A point's word is its tile's. -/
theorem word_eq (t : Fin grid0.N) (xt : S154.Idx → BitVec 32) : word (F := Ideal) (grid0.coords t) xt = xt (ix1 ⟨t.val, t.isLt.trans_eq N_0⟩) := by
  unfold word
  refine congrArg xt ?_
  funext a
  obtain rfl : a = 0 := Subsingleton.elim _ _
  apply Fin.ext
  show k0_off1 (grid0.coords t) 0 + 1 * 0 = t.val
  rw [at_word]
  omega

/-- The rows of a point's tile. -/
theorem iblk_0 (t : Fin (cfgM m hO).N) (r : Fin 256) (k : Fin 1024) : (iblk m hO c 0 t : Vec Ideal S256x1024 .f32) (ix2 r k)
    = (m (c.tc.loc main_arg0) : Vec Ideal S39424x1024 .f32) (ix2 ⟨t.val * 256 + r.val, by have : t.val < 154 := t.isLt.trans_eq N_0
                                                                                          omega⟩ k) := by
  unfold iblk
  refine Eq.trans (View.read_apply _ _) ?_
  show V m c main_arg0 _ = _
  rw [V_main_arg0]
  congr 1
  funext a
  apply Fin.ext
  match a with
  | ⟨0, _⟩ =>
    show cc0_transform_0 (grid0.coords t) 0 * 256 + 1 * r.val = t.val * 256 + r.val
    rw [(at0 t).1]
    omega
  | ⟨1, _⟩ =>
    show cc0_transform_0 (grid0.coords t) 1 * 1024 + 1 * k.val = k.val
    rw [(at0 t).2]
    omega

/-- The router's matrix. -/
theorem iblk_1 (t : Fin (cfgM m hO).N) (k : Fin 1024) (e : Fin 16) : (iblk m hO c 1 t : Vec Ideal S1024x16 .bf16) (ix2 k e)
    = (m (c.tc.loc main_arg1) : Vec Ideal S1024x16 .f32) (ix2 k e) := by
  unfold iblk
  refine Eq.trans (View.read_apply _ _) ?_
  show V m c main_v0 _ = _
  rw [V_main_v0]
  show (m (c.tc.loc main_arg1) : Vec Ideal S1024x16 .f32) _ = _
  congr 1
  funext a
  apply Fin.ext
  match a with
  | ⟨0, _⟩ =>
    show cc0_transform_1 (grid0.coords t) 0 * 1024 + 1 * k.val = k.val
    rw [(at1 t).1]
    omega
  | ⟨1, _⟩ =>
    show cc0_transform_1 (grid0.coords t) 1 * 16 + 1 * e.val = e.val
    rw [(at1 t).2]
    omega

/-- The first expert's gate matrix. -/
theorem iblk_2 (t : Fin (cfgM m hO).N) (h : (word (F := Ideal) (grid0.coords t) (tbl m 0) : BitVec 32).toNat < 16) (k : Fin 1024) (f : Fin 512) :
    (iblk m hO c 2 t : Vec Ideal S1x1024x512 .bf16) (ix3 0 k f)
      = (m (c.tc.loc main_arg2) : Vec Ideal S16x1024x512 .f32) (ix3 ⟨(word (F := Ideal) (grid0.coords t) (tbl m 0) : BitVec 32).toNat, h⟩ k f) := by
  unfold iblk
  refine Eq.trans (View.read_apply _ _) ?_
  show V m c main_v1 _ = _
  rw [V_main_v1]
  show (m (c.tc.loc main_arg2) : Vec Ideal S16x1024x512 .f32) _ = _
  congr 1
  funext a
  apply Fin.ext
  match a with
  | ⟨0, _⟩ =>
    show (word (F := Ideal) (grid0.coords t) (tbl m 0) : BitVec 32).toNat * 1 + 1 * 0 = (word (F := Ideal) (grid0.coords t) (tbl m 0) : BitVec 32).toNat
    omega
  | ⟨1, _⟩ =>
    show 0 * 1024 + 1 * k.val = k.val
    omega
  | ⟨2, _⟩ =>
    show 0 * 512 + 1 * f.val = f.val
    omega

/-- The first expert's up matrix. -/
theorem iblk_3 (t : Fin (cfgM m hO).N) (h : (word (F := Ideal) (grid0.coords t) (tbl m 0) : BitVec 32).toNat < 16) (k : Fin 1024) (f : Fin 512) :
    (iblk m hO c 3 t : Vec Ideal S1x1024x512 .bf16) (ix3 0 k f)
      = (m (c.tc.loc main_arg3) : Vec Ideal S16x1024x512 .f32) (ix3 ⟨(word (F := Ideal) (grid0.coords t) (tbl m 0) : BitVec 32).toNat, h⟩ k f) := by
  unfold iblk
  refine Eq.trans (View.read_apply _ _) ?_
  show V m c main_v2 _ = _
  rw [V_main_v2]
  show (m (c.tc.loc main_arg3) : Vec Ideal S16x1024x512 .f32) _ = _
  congr 1
  funext a
  apply Fin.ext
  match a with
  | ⟨0, _⟩ =>
    show (word (F := Ideal) (grid0.coords t) (tbl m 0) : BitVec 32).toNat * 1 + 1 * 0 = (word (F := Ideal) (grid0.coords t) (tbl m 0) : BitVec 32).toNat
    omega
  | ⟨1, _⟩ =>
    show 0 * 1024 + 1 * k.val = k.val
    omega
  | ⟨2, _⟩ =>
    show 0 * 512 + 1 * f.val = f.val
    omega

/-- The first expert's down matrix. -/
theorem iblk_4 (t : Fin (cfgM m hO).N) (h : (word (F := Ideal) (grid0.coords t) (tbl m 0) : BitVec 32).toNat < 16) (k : Fin 512) (f : Fin 1024) :
    (iblk m hO c 4 t : Vec Ideal S1x512x1024 .bf16) (ix3 0 k f)
      = (m (c.tc.loc main_arg4) : Vec Ideal S16x512x1024 .f32) (ix3 ⟨(word (F := Ideal) (grid0.coords t) (tbl m 0) : BitVec 32).toNat, h⟩ k f) := by
  unfold iblk
  refine Eq.trans (View.read_apply _ _) ?_
  show V m c main_v3 _ = _
  rw [V_main_v3]
  show (m (c.tc.loc main_arg4) : Vec Ideal S16x512x1024 .f32) _ = _
  congr 1
  funext a
  apply Fin.ext
  match a with
  | ⟨0, _⟩ =>
    show (word (F := Ideal) (grid0.coords t) (tbl m 0) : BitVec 32).toNat * 1 + 1 * 0 = (word (F := Ideal) (grid0.coords t) (tbl m 0) : BitVec 32).toNat
    omega
  | ⟨1, _⟩ =>
    show 0 * 512 + 1 * k.val = k.val
    omega
  | ⟨2, _⟩ =>
    show 0 * 1024 + 1 * f.val = f.val
    omega

/-- The second expert's gate matrix. -/
theorem iblk_5 (t : Fin (cfgM m hO).N) (h : (word (F := Ideal) (grid0.coords t) (tbl m 1) : BitVec 32).toNat < 16) (k : Fin 1024) (f : Fin 512) :
    (iblk m hO c 5 t : Vec Ideal S1x1024x512 .bf16) (ix3 0 k f)
      = (m (c.tc.loc main_arg2) : Vec Ideal S16x1024x512 .f32) (ix3 ⟨(word (F := Ideal) (grid0.coords t) (tbl m 1) : BitVec 32).toNat, h⟩ k f) := by
  unfold iblk
  refine Eq.trans (View.read_apply _ _) ?_
  show V m c main_v1 _ = _
  rw [V_main_v1]
  show (m (c.tc.loc main_arg2) : Vec Ideal S16x1024x512 .f32) _ = _
  congr 1
  funext a
  apply Fin.ext
  match a with
  | ⟨0, _⟩ =>
    show (word (F := Ideal) (grid0.coords t) (tbl m 1) : BitVec 32).toNat * 1 + 1 * 0 = (word (F := Ideal) (grid0.coords t) (tbl m 1) : BitVec 32).toNat
    omega
  | ⟨1, _⟩ =>
    show 0 * 1024 + 1 * k.val = k.val
    omega
  | ⟨2, _⟩ =>
    show 0 * 512 + 1 * f.val = f.val
    omega

/-- The second expert's up matrix. -/
theorem iblk_6 (t : Fin (cfgM m hO).N) (h : (word (F := Ideal) (grid0.coords t) (tbl m 1) : BitVec 32).toNat < 16) (k : Fin 1024) (f : Fin 512) :
    (iblk m hO c 6 t : Vec Ideal S1x1024x512 .bf16) (ix3 0 k f)
      = (m (c.tc.loc main_arg3) : Vec Ideal S16x1024x512 .f32) (ix3 ⟨(word (F := Ideal) (grid0.coords t) (tbl m 1) : BitVec 32).toNat, h⟩ k f) := by
  unfold iblk
  refine Eq.trans (View.read_apply _ _) ?_
  show V m c main_v2 _ = _
  rw [V_main_v2]
  show (m (c.tc.loc main_arg3) : Vec Ideal S16x1024x512 .f32) _ = _
  congr 1
  funext a
  apply Fin.ext
  match a with
  | ⟨0, _⟩ =>
    show (word (F := Ideal) (grid0.coords t) (tbl m 1) : BitVec 32).toNat * 1 + 1 * 0 = (word (F := Ideal) (grid0.coords t) (tbl m 1) : BitVec 32).toNat
    omega
  | ⟨1, _⟩ =>
    show 0 * 1024 + 1 * k.val = k.val
    omega
  | ⟨2, _⟩ =>
    show 0 * 512 + 1 * f.val = f.val
    omega

/-- The second expert's down matrix. -/
theorem iblk_7 (t : Fin (cfgM m hO).N) (h : (word (F := Ideal) (grid0.coords t) (tbl m 1) : BitVec 32).toNat < 16) (k : Fin 512) (f : Fin 1024) :
    (iblk m hO c 7 t : Vec Ideal S1x512x1024 .bf16) (ix3 0 k f)
      = (m (c.tc.loc main_arg4) : Vec Ideal S16x512x1024 .f32) (ix3 ⟨(word (F := Ideal) (grid0.coords t) (tbl m 1) : BitVec 32).toNat, h⟩ k f) := by
  unfold iblk
  refine Eq.trans (View.read_apply _ _) ?_
  show V m c main_v3 _ = _
  rw [V_main_v3]
  show (m (c.tc.loc main_arg4) : Vec Ideal S16x512x1024 .f32) _ = _
  congr 1
  funext a
  apply Fin.ext
  match a with
  | ⟨0, _⟩ =>
    show (word (F := Ideal) (grid0.coords t) (tbl m 1) : BitVec 32).toNat * 1 + 1 * 0 = (word (F := Ideal) (grid0.coords t) (tbl m 1) : BitVec 32).toNat
    omega
  | ⟨1, _⟩ =>
    show 0 * 512 + 1 * k.val = k.val
    omega
  | ⟨2, _⟩ =>
    show 0 * 1024 + 1 * f.val = f.val
    omega

end Cert.Moe

end
-- ==== Proof.MoeRef.lean ====
/- The experts' reference read at an index: the two named experts' outputs of a row, shared by their scores, or zero where the row's
   tile holds no token. -/
module

public import proofs.«01_k».proof.Proof.Gen.Reference2Ideal.Run
public import proofs.«01_k».proof.Proof.MoeSpec
public import Idealize.ShloMosaic.Lib.Pointwise
public import Idealize.ShloMosaic.Lib.ValueIdxCore
public import Idealize.ShloMosaic.PureOps.Ideal

@[expose] public section

set_option maxRecDepth 65536

noncomputable section

namespace Cert.MoeRef

open Cert.Moe Cert.Reference2Ideal Cert.Reference2Ideal.Gen Idealize.ShloMosaic Idealize.ShloMosaic.TcCoe Idealize.ShloMosaic.StableHlo Idealize.SL.Sem

variable {F : FTy → Type} [FloatOps F]

/-- The experts' numbers, row by row. -/
def names (A5 A6 : Vec F S154 .i32) : Vec F S39424x2 .i32 :=
  shapeCast _ (broadcastInDim S154x256x2 ![0, 2] bcast_S154x2_S154x256x2_0_2 (concatenate S154x2 1 [⟨S154x1, broadcastInDim S154x1 ![0] bcast_S154_S154x1_0 A5⟩, ⟨S154x1, broadcastInDim S154x1 ![0] bcast_S154_S154x1_0 A6⟩] concatenates_S154x1_S154x1_S154x2_d1)) shapeCasts_S154x256x2_S39424x2

/-- A row's first expert is its tile's. -/
theorem names0 (A5 A6 : Vec Ideal S154 .i32) (n : Fin 39424) : names (F := Ideal) A5 A6 (ix2 n 0) = A5 (ix1 ⟨n.val / 256, by omega⟩) := by
  unfold names
  pointwise

/-- A row's second expert is its tile's. -/
theorem names1 (A5 A6 : Vec Ideal S154 .i32) (n : Fin 39424) : names (F := Ideal) A5 A6 (ix2 n 1) = A6 (ix1 ⟨n.val / 256, by omega⟩) := by
  unfold names
  pointwise

/-- The numbers with negative ones wrapped, as rows of one. -/
def wrapped (E : Vec F S39424x2 .i32) : Vec F S39424x2x1 .i32 :=
  shapeCast _ (select (cmpi .slt E (broadcastInDim S39424x2 ![] bcast_S_S39424x2 (constantI S_ 32 0#32))) (addi E (broadcastInDim S39424x2 ![] bcast_S_S39424x2 (constantI S_ 32 16#32))) E) shapeCasts_S39424x2_S39424x2x1

/-- A word below sixteen is not negative. -/
theorem not_neg (w : BitVec 32) (h : w.toNat < 16) : BitVec.slt w 0#32 = false ∧ BitVec.sle 0#32 w = true ∧ BitVec.sle w 15#32 = true ∧ w.toInt = w.toNat := by
  have e : w.toInt = w.toNat := by rw [BitVec.toInt_eq_toNat_cond]; split <;> omega
  have z : (0#32 : BitVec 32).toInt = 0 := by decide
  have s : (15#32 : BitVec 32).toInt = 15 := by decide
  refine ⟨?_, ?_, ?_, e⟩
  · simp only [BitVec.slt, e, z]; exact decide_eq_false (by omega)
  · simp only [BitVec.sle, e, z]; exact decide_eq_true (by omega)
  · simp only [BitVec.sle, e, s]; exact decide_eq_true (by omega)

/-- A number in range is not wrapped. -/
theorem wrapped_apply (E : Vec Ideal S39424x2 .i32) (n : Fin 39424) (k : Fin 2) (h : (E (ix2 n k) : BitVec 32).toNat < 16) :
    wrapped (F := Ideal) E (ix3 n k 0) = E (ix2 n k) := by
  unfold wrapped
  pointwise
  show (if BitVec.ofBool (BitVec.slt (E (ix2 n k)) 0#32) = 1#1 then _ else _) = _
  rw [(not_neg _ h).1]
  rfl

/-- Whether the numbers name experts. -/
def inside (W : Vec F S39424x2x1 .i32) : Vec F S39424x2 .i1 :=
  Host.reduce IntOp.andi (andi (cmpi .sge W (broadcastInDim S39424x2x1 ![] bcast_S_S39424x2x1 (constantI S_ 32 0#32))) (cmpi .sle W (broadcastInDim S39424x2x1 ![0, 1, 2] bcast_S1x1x1_S39424x2x1_0_1_2 (broadcastInDim S1x1x1 ![2] bcast_S1_S1x1x1_2 (constantI S1 32 15#32))))) (constantI S_ 1 1#1) reducesTo_S39424x2x1_S39424x2_d2 h_S_

/-- Numbers in range do. -/
theorem inside_apply (W : Vec Ideal S39424x2x1 .i32) (n : Fin 39424) (k : Fin 2) (h : (W (ix3 n k 0) : BitVec 32).toNat < 16) :
    inside (F := Ideal) W (ix2 n k) = 1#1 := by
  unfold inside
  pointwise
  have e : (fun x : Fin 1 => IntOp.andi (IntOp.cmpi CmpIPredicate.sge (W (ix3 n k x)) 0#32) (IntOp.cmpi CmpIPredicate.sle (W (ix3 n k x)) 15#32))
      = fun _ => 1#1 := by
    funext x
    obtain rfl : x = 0 := Subsingleton.elim _ _
    show BitVec.ofBool (BitVec.sle 0#32 (W (ix3 n k 0))) &&& BitVec.ofBool (BitVec.sle (W (ix3 n k 0)) 15#32) = 1#1
    rw [(not_neg _ h).2.1, (not_neg _ h).2.2.1]
    decide
  rw [e]
  decide

/-- Every row's score of every expert. -/
def scores (A0 : Vec F S39424x1024 .f32) (A1 : Vec F S1024x16 .f32) : Vec F S39424x16 .f32 :=
  Host.divf (broadcastInDim S39424x16 ![] bcast_S_S39424x16 (constant S_ .f32 0x3F800000#32)) (addf (broadcastInDim S39424x16 ![] bcast_S_S39424x16 (constant S_ .f32 0x3F800000#32)) (Host.exp (Host.negf (Host.dotGeneral dot_S39424x1024_S1024x16_S39424x16_1_0_0_1_n_n none A0 A1))))

/-- A score at an index. -/
theorem scores_apply (A0 : Vec Ideal S39424x1024 .f32) (A1 : Vec Ideal S1024x16 .f32) (n : Fin 39424) (e : Fin 16) :
    scores A0 A1 (ix2 n e) = score (fun k => A0 (ix2 n k)) (fun k e => A1 (ix2 k e)) e := by
  unfold scores
  pointwise
  rfl

/-- The score at a row's named expert. -/
theorem take_apply (A : Vec Ideal S39424x16 .f32) (W : Vec Ideal S39424x2x1 .i32) (n : Fin 39424) (k : Fin 2) (h : (W (ix3 n k 0) : BitVec 32).toNat < 16) :
    Host.gather gather_S39424x16_S39424x2x1_S39424x2_n_1_0_0_1_2_11 A W (ix2 n k) = A (ix2 n ⟨(W (ix3 n k 0) : BitVec 32).toNat, h⟩) := by
  unfold Host.gather
  congr 1
  funext a
  refine Fin.ext ?_
  show gather_S39424x16_S39424x2x1_S39424x2_n_1_0_0_1_2_11.start (ix2 n k) W a + gather_S39424x16_S39424x2x1_S39424x2_n_1_0_0_1_2_11.batchCoord (ix2 n k) a
      + gather_S39424x16_S39424x2x1_S39424x2_n_1_0_0_1_2_11.offCoord (ix2 n k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S39424x16_S39424x2x1_S39424x2_n_1_0_0_1_2_11.operandBatchingDims from List.mem_singleton.mpr rfl)]
    rfl
  · rw [GatherDims.batchCoord_eq_zero _ _ _ (fun h => by simp [gather_S39424x16_S39424x2x1_S39424x2_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S39424x16_S39424x2x1_S39424x2_n_1_0_0_1_2_11.startIndexMap from List.mem_singleton.mpr rfl)]
    have hsi : gather_S39424x16_S39424x2x1_S39424x2_n_1_0_0_1_2_11.siIdx (ix2 n k) ⟨List.idxOf (1 : Fin 2) gather_S39424x16_S39424x2x1_S39424x2_n_1_0_0_1_2_11.startIndexMap,
        List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    show min (W (ix3 n k 0) : BitVec 32).toInt.toNat 15 = (W (ix3 n k 0) : BitVec 32).toNat
    rw [(not_neg _ h).2.2.2]
    omega

/-- The two experts' shares of a row. -/
def shares (T : Vec F S39424x2 .f32) : Vec F S39424x2 .f32 :=
  Host.divf T (broadcastInDim S39424x2 ![0, 1] bcast_S39424x1_S39424x2_0_1 (broadcastInDim S39424x1 ![0] bcast_S39424_S39424x1_0 (Host.reduceAdd T (constant S_ .f32 0x00000000#32) reducesTo_S39424x2_S39424_d1 h_S_)))

/-- A share at an index. -/
theorem shares_apply (T : Vec Ideal S39424x2 .f32) (n : Fin 39424) (k : Fin 2) :
    shares T (ix2 n k) = Ideal.div (T (ix2 n k)) (T (ix2 n 0) + T (ix2 n 1)) := by
  unfold shares
  pointwise
  rw [Fin.sum_univ_two]

/-- What each expert weighs in a row. -/
def gates (E : Vec F S39424x2 .i32) (P : Vec F S39424x2 .f32) : Vec F S39424x16 .f32 :=
  Host.reduceAdd (mulf (uitofp .f32 (cmpi .eq (broadcastInDim S39424x2x16 ![0, 1, 2] bcast_S39424x2x1_S39424x2x16_0_1_2 (broadcastInDim S39424x2x1 ![0, 1] bcast_S39424x2_S39424x2x1_0_1 E)) (broadcastInDim S39424x2x16 ![0, 1, 2] bcast_S1x1x16_S39424x2x16_0_1_2 (iotaInDim S1x1x16 32 2)))) (broadcastInDim S39424x2x16 ![0, 1, 2] bcast_S39424x2x1_S39424x2x16_0_1_2 (broadcastInDim S39424x2x1 ![0, 1] bcast_S39424x2_S39424x2x1_0_1 P))) (constant S_ .f32 0x00000000#32) reducesTo_S39424x2x16_S39424x16_d1 h_S_

/-- A weight at an index: the shares of those named experts that are this one. -/
theorem gates_apply (E : Vec Ideal S39424x2 .i32) (P : Vec Ideal S39424x2 .f32) (n : Fin 39424) (e : Fin 16)
    (h0 : (E (ix2 n 0) : BitVec 32).toNat < 16) (h1 : (E (ix2 n 1) : BitVec 32).toNat < 16) :
    gates E P (ix2 n e) = (if (⟨(E (ix2 n 0) : BitVec 32).toNat, h0⟩ : Fin 16) = e then 1 else 0) * P (ix2 n 0)
      + (if (⟨(E (ix2 n 1) : BitVec 32).toNat, h1⟩ : Fin 16) = e then 1 else 0) * P (ix2 n 1) := by
  unfold gates
  pointwise
  rw [Fin.sum_univ_two]
  exact congrArg₂ (fun a b => a * P (ix2 n 0) + b * P (ix2 n 1)) (unit_eq _ h0 e) (unit_eq _ h1 e)

/-- Every row through every expert's matrix. -/
def hidden (A0 : Vec F S39424x1024 .f32) (A2 : Vec F S16x1024x512 .f32) : Vec F S16x39424x512 .f32 :=
  transpose S16x39424x512 [0, 2, 1] (Host.dotGeneral dot_S16x1024x512_S39424x1024_S16x512x39424_1_1_02_0_n_n none A2 A0) transposes_S16x512x39424_S16x39424x512_0_2_1

/-- A row through a matrix at an index. -/
theorem hidden_apply (A0 : Vec Ideal S39424x1024 .f32) (A2 : Vec Ideal S16x1024x512 .f32) (e : Fin 16) (n : Fin 39424) (f : Fin 512) :
    hidden A0 A2 (ix3 e n f) = hid (fun k => A0 (ix2 n k)) (fun k f => A2 (ix3 e k f)) f := by
  unfold hidden
  pointwise
  exact Finset.sum_congr rfl fun k _ => mul_comm _ _

/-- Every row through every expert. -/
def mlps (G U : Vec F S16x39424x512 .f32) (A4 : Vec F S16x512x1024 .f32) : Vec F S16x39424x1024 .f32 :=
  Host.dotGeneral dot_S16x39424x512_S16x512x1024_S16x39424x1024_2_1_1_2_0_0 none (mulf (mulf G (Host.divf (broadcastInDim S16x39424x512 ![] bcast_S_S16x39424x512 (constant S_ .f32 0x3F800000#32)) (addf (broadcastInDim S16x39424x512 ![] bcast_S_S16x39424x512 (constant S_ .f32 0x3F800000#32)) (Host.exp (Host.negf G))))) U) A4

/-- A row through an expert at an index. -/
theorem mlps_apply (A0 : Vec Ideal S39424x1024 .f32) (A2 A3 : Vec Ideal S16x1024x512 .f32) (A4 : Vec Ideal S16x512x1024 .f32) (e : Fin 16) (n : Fin 39424) (j : Fin 1024) :
    mlps (hidden A0 A2) (hidden A0 A3) A4 (ix3 e n j)
      = mlp (fun k => A0 (ix2 n k)) (fun k f => A2 (ix3 e k f)) (fun k f => A3 (ix3 e k f)) (fun f j => A4 (ix3 e f j)) j := by
  unfold mlps
  generalize hG : hidden A0 A2 = G
  generalize hU : hidden A0 A3 = U
  pointwise
  subst hG hU
  simp only [hidden_apply]
  rfl

/-- The experts' outputs, weighed and added. -/
def summed (g : Vec F S39424x16 .f32) (M : Vec F S16x39424x1024 .f32) : Vec F S39424x1024 .f32 :=
  Host.reduceAdd (mulf (broadcastInDim S16x39424x1024 ![0, 1, 2] bcast_S16x39424x1_S16x39424x1024_0_1_2 (broadcastInDim S16x39424x1 ![0, 1] bcast_S16x39424_S16x39424x1_0_1 (transpose S16x39424 [1, 0] g transposes_S39424x16_S16x39424_1_0))) M) (constant S_ .f32 0x00000000#32) reducesTo_S16x39424x1024_S39424x1024_d0 h_S_

/-- The weighed sum at an index. -/
theorem summed_apply (g : Vec Ideal S39424x16 .f32) (M : Vec Ideal S16x39424x1024 .f32) (n : Fin 39424) (j : Fin 1024) :
    summed g M (ix2 n j) = ∑ e, g (ix2 n e) * M (ix3 e n j) := by
  unfold summed
  pointwise

/-- Zero where a row's tile holds no token. -/
def masked (A7 : Vec F S154 .i32) (Y : Vec F S39424x1024 .f32) : Vec F S39424x1024 .f32 :=
  select (broadcastInDim S39424x1024 ![0, 1] bcast_S39424x1_S39424x1024_0_1 (cmpi .ne (broadcastInDim S39424x1 ![0] bcast_S39424_S39424x1_0 (shapeCast _ (broadcastInDim S154x256 ![0] bcast_S154_S154x256_0 A7) shapeCasts_S154x256_S39424)) (broadcastInDim S39424x1 ![] bcast_S_S39424x1 (constantI S_ 32 0#32)))) Y (broadcastInDim S39424x1024 ![] bcast_S_S39424x1024 (id (constant S_ .f32 0x00000000#32)))

/-- The masked result at an index. -/
theorem masked_apply (A7 : Vec Ideal S154 .i32) (Y : Vec Ideal S39424x1024 .f32) (n : Fin 39424) (j : Fin 1024) :
    masked A7 Y (ix2 n j) = if (A7 (ix1 ⟨n.val / 256, by omega⟩) : BitVec 32) = 0#32 then 0 else Y (ix2 n j) := by
  unfold masked
  pointwise
  show (if BitVec.ofBool ((A7 (ix1 ⟨n.val / 256, by omega⟩) : BitVec 32) != 0#32) = 1#1 then Y (ix2 n j) else constant (F := Ideal) S_ FTy.f32 0#32 ix0) = _
  by_cases h : (A7 (ix1 ⟨n.val / 256, by omega⟩) : BitVec 32) = 0#32
  · rw [if_pos h, h, if_neg (by decide)]
    pointwise
  · rw [if_neg h, bne, beq_false_of_ne h]
    rfl

/-- The scores of a row's two experts. -/
def taken (A0 : Vec F S39424x1024 .f32) (A1 : Vec F S1024x16 .f32) (E : Vec F S39424x2 .i32) : Vec F S39424x2 .f32 :=
  select (inside (wrapped E)) (Host.gather gather_S39424x16_S39424x2x1_S39424x2_n_1_0_0_1_2_11 (scores A0 A1) (wrapped E))
      (broadcastInDim S39424x2 ![] bcast_S_S39424x2 (constant S_ .f32 0x7FC00000#32))

/-- The reference's result as a function of its arguments. -/
def result (A0 : Vec F S39424x1024 .f32) (A1 : Vec F S1024x16 .f32) (A2 A3 : Vec F S16x1024x512 .f32) (A4 : Vec F S16x512x1024 .f32)
    (A5 A6 A7 : Vec F S154 .i32) : Vec F S39424x1024 .f32 :=
  masked A7 (summed (gates (names A5 A6) (shares (taken A0 A1 (names A5 A6)))) (mlps (hidden A0 A2) (hidden A0 A3) A4))

/-- The reference's result, by the names above. -/
theorem res_eq (m : (ℓ : Loc nD τ sig) → Buf (Elt F) ℓ) (c : Dev nD) (A0 A1 A2 A3 A4 A5 A6 A7)
    (h0 : m ((c.tc : Thread nD τ).loc main_arg0) = A0) (h1 : m ((c.tc : Thread nD τ).loc main_arg1) = A1)
    (h2 : m ((c.tc : Thread nD τ).loc main_arg2) = A2) (h3 : m ((c.tc : Thread nD τ).loc main_arg3) = A3)
    (h4 : m ((c.tc : Thread nD τ).loc main_arg4) = A4) (h5 : m ((c.tc : Thread nD τ).loc main_arg5) = A5)
    (h6 : m ((c.tc : Thread nD τ).loc main_arg6) = A6) (h7 : m ((c.tc : Thread nD τ).loc main_arg7) = A7) :
    Value.res_out0 m c = result A0 A1 A2 A3 A4 A5 A6 A7 := by
  subst h0 h1 h2 h3 h4 h5 h6 h7
  unfold result taken
  rfl

/-- A choice between vectors at an index. -/
theorem select_at {s : Shape} {e : EltTy} (p : Vec Ideal s .i1) (a b : Vec Ideal s e) (i : s.Idx) : select p a b i = Scalar.select (p i) (a i) (b i) := rfl

/-- The score of a row's named expert. -/
theorem taken_apply (A0 : Vec Ideal S39424x1024 .f32) (A1 : Vec Ideal S1024x16 .f32) (E : Vec Ideal S39424x2 .i32) (n : Fin 39424) (k : Fin 2)
    (h : (E (ix2 n k) : BitVec 32).toNat < 16) :
    taken A0 A1 E (ix2 n k) = score (fun k => A0 (ix2 n k)) (fun k e => A1 (ix2 k e)) ⟨(E (ix2 n k) : BitVec 32).toNat, h⟩ := by
  have hw := wrapped_apply E n k h
  have h' : (wrapped (F := Ideal) E (ix3 n k 0) : BitVec 32).toNat < 16 := by rw [hw]; exact h
  unfold taken
  rw [select_at, inside_apply _ n k h', take_apply _ _ n k h', scores_apply]
  refine Eq.trans (if_pos rfl) ?_
  exact congrArg (score _ _) (Fin.ext (congrArg BitVec.toNat hw))

/-- The reference's result at an index. -/
theorem ref_apply (A0 : Vec Ideal S39424x1024 .f32) (A1 : Vec Ideal S1024x16 .f32) (A2 A3 : Vec Ideal S16x1024x512 .f32) (A4 : Vec Ideal S16x512x1024 .f32)
    (A5 A6 A7 : Vec Ideal S154 .i32) (n : Fin 39424) (j : Fin 1024)
    (h0 : (A5 (ix1 ⟨n.val / 256, by omega⟩) : BitVec 32).toNat < 16) (h1 : (A6 (ix1 ⟨n.val / 256, by omega⟩) : BitVec 32).toNat < 16) :
    result A0 A1 A2 A3 A4 A5 A6 A7 (ix2 n j)
      = if (A7 (ix1 ⟨n.val / 256, by omega⟩) : BitVec 32) = 0#32 then 0 else
          mix (score (fun k => A0 (ix2 n k)) (fun k e => A1 (ix2 k e)) ⟨_, h0⟩) (score (fun k => A0 (ix2 n k)) (fun k e => A1 (ix2 k e)) ⟨_, h1⟩)
            (mlp (fun k => A0 (ix2 n k)) (fun k f => A2 (ix3 ⟨_, h0⟩ k f)) (fun k f => A3 (ix3 ⟨_, h0⟩ k f)) (fun f j => A4 (ix3 ⟨_, h0⟩ f j)) j)
            (mlp (fun k => A0 (ix2 n k)) (fun k f => A2 (ix3 ⟨_, h1⟩ k f)) (fun k f => A3 (ix3 ⟨_, h1⟩ k f)) (fun f j => A4 (ix3 ⟨_, h1⟩ f j)) j) := by
  unfold result
  have n0 := names0 A5 A6 n
  have n1 := names1 A5 A6 n
  generalize hE : names (F := Ideal) A5 A6 = E at n0 n1 ⊢
  have h0' : (E (ix2 n 0) : BitVec 32).toNat < 16 := by rw [n0]; exact h0
  have h1' : (E (ix2 n 1) : BitVec 32).toNat < 16 := by rw [n1]; exact h1
  have p0 : (⟨_, h0'⟩ : Fin 16) = ⟨_, h0⟩ := Fin.ext (congrArg BitVec.toNat n0)
  have p1 : (⟨_, h1'⟩ : Fin 16) = ⟨_, h1⟩ := Fin.ext (congrArg BitVec.toNat n1)
  have t0 := taken_apply A0 A1 E n 0 h0'
  have t1 := taken_apply A0 A1 E n 1 h1'
  rw [p0] at t0
  rw [p1] at t1
  rw [masked_apply]
  refine congrArg (fun y => if (A7 (ix1 ⟨n.val / 256, by omega⟩) : BitVec 32) = 0#32 then 0 else y) ?_
  rw [summed_apply]
  have e : ∀ e, gates E (shares (taken A0 A1 E)) (ix2 n e) * mlps (hidden A0 A2) (hidden A0 A3) A4 (ix3 e n j)
      = ((if (⟨_, h0⟩ : Fin 16) = e then 1 else 0) * shares (taken A0 A1 E) (ix2 n 0)
        + (if (⟨_, h1⟩ : Fin 16) = e then 1 else 0) * shares (taken A0 A1 E) (ix2 n 1))
        * mlp (fun k => A0 (ix2 n k)) (fun k f => A2 (ix3 e k f)) (fun k f => A3 (ix3 e k f)) (fun f j => A4 (ix3 e f j)) j := by
    intro e
    rw [gates_apply E _ n e h0' h1', mlps_apply, p0, p1]
  rw [Finset.sum_congr rfl fun x _ => e x, two_experts, shares_apply, shares_apply, t0, t1]
  · rfl
  · intro hpq
    rw [shares_apply, shares_apply, t0, t1, hpq]

end Cert.MoeRef
end
-- ==== Proof.MoeVal.lean ====
/- The experts kernel's array is the reference's result, when every tile's numbers name an expert. -/
module

public import proofs.«01_k».proof.Proof.MoeKer
public import proofs.«01_k».proof.Proof.MoeRef

@[expose] public section

set_option maxRecDepth 65536

noncomputable section

namespace Cert.Moe

open Cert.Kernel2Ideal Cert.Kernel2Ideal.Gen Idealize.ShloMosaic Idealize.ShloMosaic.TcCoe Idealize.ShloMosaic.StableHlo Idealize.SL.Sem

/-- The first experts' table. -/
theorem tbl_0 {F : FTy → Type} [FloatOps F] (m : (ℓ : Loc nD τ sig) → Buf (Elt F) ℓ) (c : Dev nD) :
    (tbl m 0 : S154.Idx → BitVec 32) = m (c.tc.loc main_arg5) := by
  obtain rfl : c = 0 := Subsingleton.elim _ _
  exact V_main_arg5 m 0
/-- The second experts' table. -/
theorem tbl_1 {F : FTy → Type} [FloatOps F] (m : (ℓ : Loc nD τ sig) → Buf (Elt F) ℓ) (c : Dev nD) :
    (tbl m 1 : S154.Idx → BitVec 32) = m (c.tc.loc main_arg6) := by
  obtain rfl : c = 0 := Subsingleton.elim _ _
  exact V_main_arg6 m 0
/-- The tiles that hold tokens. -/
theorem tbl_2 {F : FTy → Type} [FloatOps F] (m : (ℓ : Loc nD τ sig) → Buf (Elt F) ℓ) (c : Dev nD) :
    (tbl m 2 : S154.Idx → BitVec 32) = m (c.tc.loc main_arg7) := by
  obtain rfl : c = 0 := Subsingleton.elim _ _
  exact V_main_arg7 m 0

variable (m : (ℓ : Loc nD τ sig) → Buf (Elt Ideal) ℓ) (hO : Ok m) (c : Dev nD)

/-- The reference's result at the kernel's arguments. -/
def res : Vec Ideal S39424x1024 .f32 :=
  Cert.MoeRef.result (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7))

/-- A tile of blocks of the arguments at an index is the reference's result there. -/
theorem tile_of (A0 : Vec Ideal S39424x1024 .f32) (A1 : Vec Ideal S1024x16 .f32) (A2 A3 : Vec Ideal S16x1024x512 .f32) (A4 : Vec Ideal S16x512x1024 .f32)
    (A5 A6 A7 : Vec Ideal S154 .i32) (n : Fin 39424) (d : n.val / 256 < 154) (y0 : Vec Ideal S256x1024 .f32) (y1 : Vec Ideal S1024x16 .bf16) (y2 y3 : Vec Ideal S1x1024x512 .bf16)
    (y4 : Vec Ideal S1x512x1024 .bf16) (y5 y6 : Vec Ideal S1x1024x512 .bf16) (y7 : Vec Ideal S1x512x1024 .bf16) (w0 w1 w2 : BitVec 32)
    (l0 : w0.toNat < 16) (l1 : w1.toNat < 16) (r : Fin 256) (j : Fin 1024)
    (e0 : w0 = A5 (ix1 ⟨n.val / 256, d⟩)) (e1 : w1 = A6 (ix1 ⟨n.val / 256, d⟩)) (e2 : w2 = A7 (ix1 ⟨n.val / 256, d⟩))
    (x0 : ∀ k, y0 (ix2 r k) = A0 (ix2 n k)) (x1 : ∀ k e, y1 (ix2 k e) = A1 (ix2 k e))
    (x2 : ∀ k f, y2 (ix3 0 k f) = A2 (ix3 ⟨w0.toNat, l0⟩ k f)) (x3 : ∀ k f, y3 (ix3 0 k f) = A3 (ix3 ⟨w0.toNat, l0⟩ k f))
    (x4 : ∀ k f, y4 (ix3 0 k f) = A4 (ix3 ⟨w0.toNat, l0⟩ k f)) (x5 : ∀ k f, y5 (ix3 0 k f) = A2 (ix3 ⟨w1.toNat, l1⟩ k f))
    (x6 : ∀ k f, y6 (ix3 0 k f) = A3 (ix3 ⟨w1.toNat, l1⟩ k f)) (x7 : ∀ k f, y7 (ix3 0 k f) = A4 (ix3 ⟨w1.toNat, l1⟩ k f)) :
    tileV y0 y1 y2 y3 y4 y5 y6 y7 w0 w1 w2 (ix2 r j) = Cert.MoeRef.result (F := Ideal) A0 A1 A2 A3 A4 A5 A6 A7 (ix2 n j) := by
  subst e0 e1 e2
  rw [tileV_apply _ _ _ _ _ _ _ _ _ _ _ l0 l1]
  refine Eq.trans ?_ (Cert.MoeRef.ref_apply _ _ _ _ _ _ _ _ n j l0 l1).symm
  simp only [x0, x1, x2, x3, x4, x5, x6, x7]

/-- A tile at an index is the reference's result there. -/
theorem tile_eq (h0 : ∀ j : S154.Idx, (tbl m 0 j : BitVec 32).toNat < 16) (h1 : ∀ j : S154.Idx, (tbl m 1 j : BitVec 32).toNat < 16)
    (t : Fin (cfgM m hO).N) (r : Fin 256) (j : Fin 1024) (n : Fin 39424) (hn : n.val = t.val * 256 + r.val) :
    outsAt0 m hO c t (ix2 r j) = res m c (ix2 n j) := by
  have ht : t.val < 154 := t.isLt.trans_eq N_0
  have hd : (⟨n.val / 256, by omega⟩ : Fin 154) = ⟨t.val, ht⟩ := Fin.ext (by show n.val / 256 = t.val; omega)
  have w0 : word (F := Ideal) (grid0.coords t) (tbl m 0) = (m (c.tc.loc main_arg5) : S154.Idx → BitVec 32) (ix1 ⟨n.val / 256, by omega⟩) := by
    rw [hd]
    exact (word_eq t (tbl m 0)).trans (congrFun (tbl_0 m c) _)
  have w1 : word (F := Ideal) (grid0.coords t) (tbl m 1) = (m (c.tc.loc main_arg6) : S154.Idx → BitVec 32) (ix1 ⟨n.val / 256, by omega⟩) := by
    rw [hd]
    exact (word_eq t (tbl m 1)).trans (congrFun (tbl_1 m c) _)
  have w2 : word (F := Ideal) (grid0.coords t) (tbl m 2) = (m (c.tc.loc main_arg7) : S154.Idx → BitVec 32) (ix1 ⟨n.val / 256, by omega⟩) := by
    rw [hd]
    exact (word_eq t (tbl m 2)).trans (congrFun (tbl_2 m c) _)
  have l0 : (word (F := Ideal) (grid0.coords t) (tbl m 0) : BitVec 32).toNat < 16 := lt_of_eq_of_lt (congrArg BitVec.toNat (word_eq t (tbl m 0))) (h0 _)
  have l1 : (word (F := Ideal) (grid0.coords t) (tbl m 1) : BitVec 32).toNat < 16 := lt_of_eq_of_lt (congrArg BitVec.toNat (word_eq t (tbl m 1))) (h1 _)
  have x0 : ∀ k : Fin 1024, (iblk m hO c 0 t : Vec Ideal S256x1024 .f32) (ix2 r k) = (m (c.tc.loc main_arg0) : Vec Ideal S39424x1024 .f32) (ix2 n k) := fun k => by
    refine (iblk_0 m hO c t r k).trans ?_
    exact congrArg (fun n => (m (c.tc.loc main_arg0) : Vec Ideal S39424x1024 .f32) (ix2 n k)) (Fin.ext hn.symm)
  exact tile_of (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) n (by omega)
    (iblk m hO c 0 t) (iblk m hO c 1 t) (iblk m hO c 2 t) (iblk m hO c 3 t) (iblk m hO c 4 t) (iblk m hO c 5 t) (iblk m hO c 6 t) (iblk m hO c 7 t)
    (word (grid0.coords t) (tbl m 0)) (word (grid0.coords t) (tbl m 1)) (word (grid0.coords t) (tbl m 2)) l0 l1 r j w0 w1 w2 x0 (iblk_1 m hO c t)
    (iblk_2 m hO c t l0) (iblk_3 m hO c t l0) (iblk_4 m hO c t l0) (iblk_5 m hO c t l1) (iblk_6 m hO c t l1) (iblk_7 m hO c t l1)

/-- The output array is the reference's result. -/
theorem arr (h0 : ∀ j : S154.Idx, (tbl m 0 j : BitVec 32).toNat < 16) (h1 : ∀ j : S154.Idx, (tbl m 1 j : BitVec 32).toNat < 16) :
    (dats m hO 0 c).arrAt 8 (cfgM m hO).N = res m c :=
  (dats m hO 0 c).arrAt_eq_of_cover 8 (res m c) (fun t _ => by
    have ht : t.val < 154 := t.isLt.trans_eq N_0
    show ((cfgM m hO).win 8).cut (grid0.coords t) ((dats m hO 0 c).after 8 t) = _
    rw [after0_8]
    refine funext fun (j : S256x1024.Idx) => ?_
    refine Eq.trans ?_ (View.read_apply _ _).symm
    obtain ⟨r, l, rfl⟩ : ∃ (r : Fin 256) (l : Fin 1024), j = ix2 r l := ⟨j 0, j 1, by funext a; fin_cases a <;> rfl⟩
    refine Eq.trans ?_ ((tile_eq m hO c h0 h1 t r l ⟨t.val * 256 + r.val, by omega⟩ rfl).trans ?_)
    · rfl
    · refine congrArg (res m c) ?_
      funext a
      apply Fin.ext
      match a with
      | ⟨0, _⟩ =>
        show t.val * 256 + r.val = cc0_transform_8 (grid0.coords t) 0 * 256 + 1 * r.val
        rw [(at8 t).1]
        omega
      | ⟨1, _⟩ =>
        show l.val = cc0_transform_8 (grid0.coords t) 1 * 1024 + 1 * l.val
        rw [(at8 t).2]
        omega) fun (i : S39424x1024.Idx) => by
    have i0 : (i 0 : Nat) < 39424 := (i 0).isLt
    have i1 : (i 1 : Nat) < 1024 := (i 1).isLt
    refine ⟨⟨(i 0 : Nat) / 256, by have : (cfgM m hO).N = 154 := N_0
                                   omega⟩, flush0_8 _ _, ?_⟩
    generalize ht : (⟨(i 0 : Nat) / 256, _⟩ : Fin (cfgM m hO).N) = t
    have ht' : t.val = (i 0 : Nat) / 256 := by rw [← ht]
    show i ∈ ((View.whole main_v4).slice (((cfgM m hO).win 8).rect t)).set
    refine (congrArg (i ∈ ·) (View.set_slice_whole main_v4 (((cfgM m hO).win 8).rect t))).mpr ?_
    refine Rect.mem_set_unit.mpr ?_
    intro a
    match a with
    | ⟨0, _⟩ =>
      show cc0_transform_8 (grid0.coords t) 0 * 256 ≤ (i 0 : Nat) ∧ (i 0 : Nat) < cc0_transform_8 (grid0.coords t) 0 * 256 + 256
      rw [(at8 t).1]
      omega
    | ⟨1, _⟩ =>
      show cc0_transform_8 (grid0.coords t) 1 * 1024 ≤ (i 1 : Nat) ∧ (i 1 : Nat) < cc0_transform_8 (grid0.coords t) 1 * 1024 + 1024
      rw [(at8 t).2]
      omega

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.OneText
public import proofs.«01_k».proof.Proof.Frame
public import proofs.«01_k».proof.Proof.RefRun
public import proofs.«01_k».proof.Proof.KerVal
public import proofs.«01_k».proof.Proof.Gen.Kernel2
public import proofs.«01_k».proof.Proof.Gen.Kernel2Ideal
public import proofs.«01_k».proof.Proof.Gen.Reference2Ideal
public import proofs.«01_k».proof.Proof.Gen.Pre_experts_named
public import proofs.«01_k».proof.Proof.MoeText
public import proofs.«01_k».proof.Proof.MoeVal
public import Idealize.ShloMosaic.Lib.Quiescent

@[expose] public section

noncomputable section

namespace Cert.Proof

open Idealize.ShloMosaic Idealize.ShloMosaic.TcCoe Idealize.SL.Sem

/-- The kernel at machine words: it runs, its argument is unchanged, every counter ends at zero. The two programs have one
    text, so this is the other's run at machine words. -/
theorem frame_kernel : Cert.quiescent_Kernel (hKernel := Cert.Kernel.Gen.facts) := fun m g _ => by
  rw [Cert.OneText.runs]
  exact (θ_run Cert.KernelIdeal.defs _ _).mono (fun _ h => ⟨fun c => (h.1 c).2.2, h.2⟩) (Cert.Ret.run_all (F := Bits) m g)

/-- The kernel over the extended reals. -/
theorem frame_ideal : Cert.quiescent_KernelIdeal (hKernelIdeal := Cert.KernelIdeal.Gen.facts) := fun m g _ =>
  (θ_run Cert.KernelIdeal.defs _ _).mono (fun _ h => ⟨fun c => (h.1 c).2.2, h.2⟩) (Cert.Ret.run_all (F := Ideal) m g)

/-- The reference runs, its argument is unchanged, every counter ends at zero. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.RetRef.run (F := Ideal) m g)

/-- Over the extended reals the kernel's two arrays are the reference's two results. -/
theorem same : Cert.algebraic_KernelIdeal_ReferenceIdeal (hKernelIdeal := Cert.KernelIdeal.Gen.facts)
    (hReferenceIdeal := Cert.ReferenceIdeal.Gen.facts) := fun m g m' g' _ hagree =>
  ⟨fun c => Cert.ReferenceIdeal.Step.R_main_v155 (Cert.RetRef.states (Cert.Ret.act m c) 16) (Cert.Ret.act m c),
   fun c => (Cert.RetRef.states (Cert.Ret.act m c) 16).main_v130_8,
   (θ_run Cert.KernelIdeal.defs _ _).mono (fun _ h c => ⟨(h.1 c).1.trans (Cert.Ret.arr8 m c), (h.1 c).2.1.trans (Cert.Ret.arr9 m c), (h.1 c).2.2⟩)
     (Cert.Ret.run_all (F := Ideal) m g),
   (θ_run Cert.ReferenceIdeal.defs _ _).mono (fun _ h c => by
     have := h c
     rw [hagree c] at this
     exact ⟨this.1, this.2.1, this.2.2.trans (hagree c).symm⟩)
     (Cert.RetRef.run (F := Ideal) m' g')⟩

/-- The precondition puts the first experts' numbers below sixteen. -/
theorem low0 {F : FTy → Type} [FloatOps F] (m : (ℓ : Loc Cert.Kernel2Ideal.nD Cert.Kernel2Ideal.τ Cert.Kernel2Ideal.sig) → Buf (Elt F) ℓ)
    (h : ∀ j : Cert.Kernel2Ideal.S154.Idx, (m ((0 : Dev Cert.Kernel2Ideal.nD).tc.loc Cert.Kernel2Ideal.main_arg5) j : BitVec 32).toNat < 16) (j : Cert.Kernel2Ideal.S154.Idx) :
    (Cert.Moe.tbl m 0 j : BitVec 32).toNat < 16 :=
  lt_of_eq_of_lt (congrArg BitVec.toNat (congrFun (Cert.Moe.tbl_0 m 0) j)) (h j)

/-- And the second experts'. -/
theorem low1 {F : FTy → Type} [FloatOps F] (m : (ℓ : Loc Cert.Kernel2Ideal.nD Cert.Kernel2Ideal.τ Cert.Kernel2Ideal.sig) → Buf (Elt F) ℓ)
    (h : ∀ j : Cert.Kernel2Ideal.S154.Idx, (m ((0 : Dev Cert.Kernel2Ideal.nD).tc.loc Cert.Kernel2Ideal.main_arg6) j : BitVec 32).toNat < 16) (j : Cert.Kernel2Ideal.S154.Idx) :
    (Cert.Moe.tbl m 1 j : BitVec 32).toNat < 16 :=
  lt_of_eq_of_lt (congrArg BitVec.toNat (congrFun (Cert.Moe.tbl_1 m 0) j)) (h j)

/-- The experts' kernel at machine words, as the other program's run at machine words. -/
theorem frame_kernel2 : Cert.quiescent_Kernel2 (hKernel2 := Cert.Kernel2.Gen.facts) (hPre_experts_named := Cert.Pre_experts_named.Gen.facts) := fun m g pre => by
  rw [Cert.MoeText.runs]
  have hn := Cert.Moe.named _ _ _ _ _ _ _ _ (pre (0 : Dev Cert.Kernel2.nD))
  exact (θ_run Cert.Kernel2Ideal.defs _ _).mono (fun _ h => ⟨fun c => (h.1 c).2, h.2⟩)
    (Cert.Moe.run_all (F := Bits) m g (Cert.Moe.ok_of m (low0 m fun j => (hn j).1) (low1 m fun j => (hn j).2)))

/-- The experts' kernel over the extended reals. -/
theorem frame_ideal2 : Cert.quiescent_Kernel2Ideal (hKernel2Ideal := Cert.Kernel2Ideal.Gen.facts) (hPre_experts_named := Cert.Pre_experts_named.Gen.facts) := fun m g pre => by
  have hn := Cert.Moe.named _ _ _ _ _ _ _ _ (pre (0 : Dev Cert.Kernel2Ideal.nD))
  exact (θ_run Cert.Kernel2Ideal.defs _ _).mono (fun _ h => ⟨fun c => (h.1 c).2, h.2⟩)
    (Cert.Moe.run_all (F := Ideal) m g (Cert.Moe.ok_of m (low0 m fun j => (hn j).1) (low1 m fun j => (hn j).2)))

/-- The experts' reference runs, its arguments are unchanged, every counter ends at zero. -/
theorem frame_reference2 : Cert.quiescent_Reference2Ideal (hReference2Ideal := Cert.Reference2Ideal.Gen.facts) (hPre_experts_named := Cert.Pre_experts_named.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals the experts' kernel's array is the reference's result. -/
theorem same2 : Cert.algebraic_Kernel2Ideal_Reference2Ideal (hKernel2Ideal := Cert.Kernel2Ideal.Gen.facts)
    (hReference2Ideal := Cert.Reference2Ideal.Gen.facts) (hPre_experts_named := Cert.Pre_experts_named.Gen.facts) := fun m g m' g' pre hagree => by
  have hn := Cert.Moe.named _ _ _ _ _ _ _ _ (pre (0 : Dev Cert.Kernel2Ideal.nD))
  have l0 := low0 m fun j => (hn j).1
  have l1 := low1 m fun j => (hn j).2
  exact ⟨fun c => Cert.Moe.res m c,
    (θ_run Cert.Kernel2Ideal.defs _ _).mono (fun _ h c => ⟨(h.1 c).1.trans (Cert.Moe.arr m (Cert.Moe.ok_of m l0 l1) c l0 l1), (h.1 c).2⟩)
      (Cert.Moe.run_all (F := Ideal) m g (Cert.Moe.ok_of m l0 l1)),
    (θ_run Cert.Reference2Ideal.defs _ _).mono (fun _ h c => by
      obtain ⟨a0, a1, a2, a3, a4, a5, a6, a7⟩ := hagree c
      exact ⟨(h c).1.trans (Cert.MoeRef.res_eq m' c _ _ _ _ _ _ _ _ a0 a1 a2 a3 a4 a5 a6 a7), (h c).2⟩)
      (Cert.Reference2Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_experts_named.Gen.facts,
  frame_kernel, frame_ideal, frame_reference, frame_kernel2, frame_ideal2, frame_reference2, trivial, same, trivial, same2⟩

end Cert.Proof

end
